-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Rotate (m : (ℓ : Loc Cert.Rotate.nD Cert.Rotate.τ Cert.Rotate.sig) → Buf (Elt Bits) ℓ) : Prop :=
  True

def Pre_RotateIdeal (m : (ℓ : Loc Cert.RotateIdeal.nD Cert.RotateIdeal.τ Cert.RotateIdeal.sig) → Buf (Elt Ideal) ℓ) : Prop :=
  True

def Pre_RotateReferenceIdeal (m : (ℓ : Loc Cert.RotateReferenceIdeal.nD Cert.RotateReferenceIdeal.τ Cert.RotateReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_Rotate [hRotate : Cert.Rotate.Facts] : Prop :=
  ∀ (m : (ℓ : Loc Cert.Rotate.nD Cert.Rotate.τ Cert.Rotate.sig) → Buf (Elt Bits) ℓ) (g : Dev Cert.Rotate.nD → PrngReg), Pre_Rotate m →
    θ_run (Cert.Rotate.defs (F := Bits)) (onTc (τ := Cert.Rotate.τ) (Cert.Rotate.main (F := Bits))) ⟨m, fun _ => 0, g⟩ (fun r => (∀ c : Dev Cert.Rotate.nD,
      r.2.mem ((c.tc : Thread Cert.Rotate.nD Cert.Rotate.τ).loc Cert.Rotate.main_arg0) = m ((c.tc : Thread Cert.Rotate.nD Cert.Rotate.τ).loc Cert.Rotate.main_arg0)
      ∧ r.2.mem ((c.tc : Thread Cert.Rotate.nD Cert.Rotate.τ).loc Cert.Rotate.main_arg1) = m ((c.tc : Thread Cert.Rotate.nD Cert.Rotate.τ).loc Cert.Rotate.main_arg1))
      ∧ r.2.sem = fun _ => 0)

def quiescent_RotateIdeal [hRotateIdeal : Cert.RotateIdeal.Facts] : Prop :=
  ∀ (m : (ℓ : Loc Cert.RotateIdeal.nD Cert.RotateIdeal.τ Cert.RotateIdeal.sig) → Buf (Elt Ideal) ℓ) (g : Dev Cert.RotateIdeal.nD → PrngReg), Pre_RotateIdeal m →
    θ_run (Cert.RotateIdeal.defs (F := Ideal)) (onTc (τ := Cert.RotateIdeal.τ) (Cert.RotateIdeal.main (F := Ideal))) ⟨m, fun _ => 0, g⟩ (fun r => (∀ c : Dev Cert.RotateIdeal.nD,
      r.2.mem ((c.tc : Thread Cert.RotateIdeal.nD Cert.RotateIdeal.τ).loc Cert.RotateIdeal.main_arg0) = m ((c.tc : Thread Cert.RotateIdeal.nD Cert.RotateIdeal.τ).loc Cert.RotateIdeal.main_arg0)
      ∧ r.2.mem ((c.tc : Thread Cert.RotateIdeal.nD Cert.RotateIdeal.τ).loc Cert.RotateIdeal.main_arg1) = m ((c.tc : Thread Cert.RotateIdeal.nD Cert.RotateIdeal.τ).loc Cert.RotateIdeal.main_arg1))
      ∧ r.2.sem = fun _ => 0)

def quiescent_RotateReferenceIdeal [hRotateReferenceIdeal : Cert.RotateReferenceIdeal.Facts] : Prop :=
  ∀ (m : (ℓ : Loc Cert.RotateReferenceIdeal.nD Cert.RotateReferenceIdeal.τ Cert.RotateReferenceIdeal.sig) → Buf (Elt Ideal) ℓ) (g : Dev Cert.RotateReferenceIdeal.nD → PrngReg), Pre_RotateReferenceIdeal m →
    θ_run (Cert.RotateReferenceIdeal.defs (F := Ideal)) (onTc (τ := Cert.RotateReferenceIdeal.τ) (Cert.RotateReferenceIdeal.main (F := Ideal))) ⟨m, fun _ => 0, g⟩ (fun r => (∀ c : Dev Cert.RotateReferenceIdeal.nD,
      r.2.mem ((c.tc : Thread Cert.RotateReferenceIdeal.nD Cert.RotateReferenceIdeal.τ).loc Cert.RotateReferenceIdeal.main_arg0) = m ((c.tc : Thread Cert.RotateReferenceIdeal.nD Cert.RotateReferenceIdeal.τ).loc Cert.RotateReferenceIdeal.main_arg0)
      ∧ r.2.mem ((c.tc : Thread Cert.RotateReferenceIdeal.nD Cert.RotateReferenceIdeal.τ).loc Cert.RotateReferenceIdeal.main_arg1) = m ((c.tc : Thread Cert.RotateReferenceIdeal.nD Cert.RotateReferenceIdeal.τ).loc Cert.RotateReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_Rotate_RotateIdeal : Prop :=
  True

def algebraic_RotateIdeal_RotateReferenceIdeal [hRotateIdeal : Cert.RotateIdeal.Facts] [hRotateReferenceIdeal : Cert.RotateReferenceIdeal.Facts] : Prop :=
  ∀ (m : (ℓ : Loc Cert.RotateIdeal.nD Cert.RotateIdeal.τ Cert.RotateIdeal.sig) → Buf (Elt Ideal) ℓ) (g : Dev Cert.RotateIdeal.nD → PrngReg)
    (m' : (ℓ : Loc Cert.RotateReferenceIdeal.nD Cert.RotateReferenceIdeal.τ Cert.RotateReferenceIdeal.sig) → Buf (Elt Ideal) ℓ) (g' : Dev Cert.RotateReferenceIdeal.nD → PrngReg), Pre_RotateIdeal m →
    (∀ c : Dev Cert.RotateIdeal.nD,
      m' ((c.tc : Thread Cert.RotateReferenceIdeal.nD Cert.RotateReferenceIdeal.τ).loc Cert.RotateReferenceIdeal.main_arg0) = m ((c.tc : Thread Cert.RotateIdeal.nD Cert.RotateIdeal.τ).loc Cert.RotateIdeal.main_arg0)
      ∧ m' ((c.tc : Thread Cert.RotateReferenceIdeal.nD Cert.RotateReferenceIdeal.τ).loc Cert.RotateReferenceIdeal.main_arg1) = m ((c.tc : Thread Cert.RotateIdeal.nD Cert.RotateIdeal.τ).loc Cert.RotateIdeal.main_arg1)) →
    ∃ (v0 : (c : Dev Cert.RotateIdeal.nD) → Buf (Elt Ideal) ((c.tc : Thread Cert.RotateIdeal.nD Cert.RotateIdeal.τ).loc Cert.RotateIdeal.main_v1_0)) (v1 : (c : Dev Cert.RotateIdeal.nD) → Buf (Elt Ideal) ((c.tc : Thread Cert.RotateIdeal.nD Cert.RotateIdeal.τ).loc Cert.RotateIdeal.main_v1_1)) (v2 : (c : Dev Cert.RotateIdeal.nD) → Buf (Elt Ideal) ((c.tc : Thread Cert.RotateIdeal.nD Cert.RotateIdeal.τ).loc Cert.RotateIdeal.main_v1_2)) (v3 : (c : Dev Cert.RotateIdeal.nD) → Buf (Elt Ideal) ((c.tc : Thread Cert.RotateIdeal.nD Cert.RotateIdeal.τ).loc Cert.RotateIdeal.main_v1_3)),
      θ_run (Cert.RotateIdeal.defs (F := Ideal)) (onTc (τ := Cert.RotateIdeal.τ) (Cert.RotateIdeal.main (F := Ideal))) ⟨m, fun _ => 0, g⟩ (fun r => ∀ c : Dev Cert.RotateIdeal.nD,
          r.2.mem ((c.tc : Thread Cert.RotateIdeal.nD Cert.RotateIdeal.τ).loc Cert.RotateIdeal.main_v1_0) = v0 c
          ∧ r.2.mem ((c.tc : Thread Cert.RotateIdeal.nD Cert.RotateIdeal.τ).loc Cert.RotateIdeal.main_v1_1) = v1 c
          ∧ r.2.mem ((c.tc : Thread Cert.RotateIdeal.nD Cert.RotateIdeal.τ).loc Cert.RotateIdeal.main_v1_2) = v2 c
          ∧ r.2.mem ((c.tc : Thread Cert.RotateIdeal.nD Cert.RotateIdeal.τ).loc Cert.RotateIdeal.main_v1_3) = v3 c
          ∧ r.2.mem ((c.tc : Thread Cert.RotateIdeal.nD Cert.RotateIdeal.τ).loc Cert.RotateIdeal.main_arg0) = m ((c.tc : Thread Cert.RotateIdeal.nD Cert.RotateIdeal.τ).loc Cert.RotateIdeal.main_arg0)
          ∧ r.2.mem ((c.tc : Thread Cert.RotateIdeal.nD Cert.RotateIdeal.τ).loc Cert.RotateIdeal.main_arg1) = m ((c.tc : Thread Cert.RotateIdeal.nD Cert.RotateIdeal.τ).loc Cert.RotateIdeal.main_arg1))
      ∧ θ_run (Cert.RotateReferenceIdeal.defs (F := Ideal)) (onTc (τ := Cert.RotateReferenceIdeal.τ) (Cert.RotateReferenceIdeal.main (F := Ideal))) ⟨m', fun _ => 0, g'⟩ (fun r => ∀ c : Dev Cert.RotateReferenceIdeal.nD,
          r.2.mem ((c.tc : Thread Cert.RotateReferenceIdeal.nD Cert.RotateReferenceIdeal.τ).loc Cert.RotateReferenceIdeal.main_v1_0) = v0 c
          ∧ r.2.mem ((c.tc : Thread Cert.RotateReferenceIdeal.nD Cert.RotateReferenceIdeal.τ).loc Cert.RotateReferenceIdeal.main_v1_1) = v1 c
          ∧ r.2.mem ((c.tc : Thread Cert.RotateReferenceIdeal.nD Cert.RotateReferenceIdeal.τ).loc Cert.RotateReferenceIdeal.main_v1_2) = v2 c
          ∧ r.2.mem ((c.tc : Thread Cert.RotateReferenceIdeal.nD Cert.RotateReferenceIdeal.τ).loc Cert.RotateReferenceIdeal.main_v1_3) = v3 c
          ∧ r.2.mem ((c.tc : Thread Cert.RotateReferenceIdeal.nD Cert.RotateReferenceIdeal.τ).loc Cert.RotateReferenceIdeal.main_arg0) = m' ((c.tc : Thread Cert.RotateReferenceIdeal.nD Cert.RotateReferenceIdeal.τ).loc Cert.RotateReferenceIdeal.main_arg0)
          ∧ r.2.mem ((c.tc : Thread Cert.RotateReferenceIdeal.nD Cert.RotateReferenceIdeal.τ).loc Cert.RotateReferenceIdeal.main_arg1) = m' ((c.tc : Thread Cert.RotateReferenceIdeal.nD Cert.RotateReferenceIdeal.τ).loc Cert.RotateReferenceIdeal.main_arg1))

def Claim : Prop :=
  ∃ (hKernel : Cert.Kernel.Facts) (hKernelIdeal : Cert.KernelIdeal.Facts) (hReferenceIdeal : Cert.ReferenceIdeal.Facts) (hRotate : Cert.Rotate.Facts) (hRotateIdeal : Cert.RotateIdeal.Facts) (hRotateReferenceIdeal : Cert.RotateReferenceIdeal.Facts),
    quiescent_Kernel (hKernel := hKernel)
    ∧ quiescent_KernelIdeal (hKernelIdeal := hKernelIdeal)
    ∧ quiescent_ReferenceIdeal (hReferenceIdeal := hReferenceIdeal)
    ∧ quiescent_Rotate (hRotate := hRotate)
    ∧ quiescent_RotateIdeal (hRotateIdeal := hRotateIdeal)
    ∧ quiescent_RotateReferenceIdeal (hRotateReferenceIdeal := hRotateReferenceIdeal)
    ∧ preserves_Kernel_KernelIdeal
    ∧ algebraic_KernelIdeal_ReferenceIdeal (hKernelIdeal := hKernelIdeal) (hReferenceIdeal := hReferenceIdeal)
    ∧ preserves_Rotate_RotateIdeal
    ∧ algebraic_RotateIdeal_RotateReferenceIdeal (hRotateIdeal := hRotateIdeal) (hRotateReferenceIdeal := hRotateReferenceIdeal)
-- ==== Kernel.lean ====
abbrev S8192x360 : Shape := ⟨2, ![8192, 360]⟩
abbrev S16x512 : Shape := ⟨2, ![16, 512]⟩
abbrev S8192x2520 : Shape := ⟨2, ![8192, 2520]⟩
abbrev S360x8640 : Shape := ⟨2, ![360, 8640]⟩
abbrev S8640 : Shape := ⟨1, ![8640]⟩
abbrev S1260x8640 : Shape := ⟨2, ![1260, 8640]⟩
abbrev S1x8640 : Shape := ⟨2, ![1, 8640]⟩
abbrev S8192x8640 : Shape := ⟨2, ![8192, 8640]⟩
abbrev S512x360 : Shape := ⟨2, ![512, 360]⟩
abbrev S512x2520 : Shape := ⟨2, ![512, 2520]⟩
abbrev S360x512 : Shape := ⟨2, ![360, 512]⟩
abbrev S1x512 : Shape := ⟨2, ![1, 512]⟩
abbrev S1260x512 : Shape := ⟨2, ![1260, 512]⟩
abbrev S512x512 : Shape := ⟨2, ![512, 512]⟩
abbrev S2520x512 : Shape := ⟨2, ![2520, 512]⟩
abbrev S512x1 : Shape := ⟨2, ![512, 1]⟩

abbrev nBuf : Space → Nat
  | .hbm => 11
  | .vmem => 18
  | .smem => 0
  | _ => 0

abbrev bufTy : (tb : Table) → Fin (tcTables nBuf tb) → BufTy
  | .hbm, ⟨0, _⟩ => ⟨S8192x360, .i8⟩
  | .hbm, ⟨1, _⟩ => ⟨S16x512, .f32⟩
  | .hbm, ⟨2, _⟩ => ⟨S8192x2520, .i8⟩
  | .hbm, ⟨3, _⟩ => ⟨S16x512, .f32⟩
  | .hbm, ⟨4, _⟩ => ⟨S360x8640, .i8⟩
  | .hbm, ⟨5, _⟩ => ⟨S8640, .f32⟩
  | .hbm, ⟨6, _⟩ => ⟨S1260x8640, .i8⟩
  | .hbm, ⟨7, _⟩ => ⟨S8640, .f32⟩
  | .hbm, ⟨8, _⟩ => ⟨S1x8640, .f32⟩
  | .hbm, ⟨9, _⟩ => ⟨S1x8640, .f32⟩
  | .hbm, ⟨10, _⟩ => ⟨S8192x8640, .bf16⟩
  | .local _ .vmem, ⟨0, _⟩ => ⟨S512x360, .i8⟩
  | .local _ .vmem, ⟨1, _⟩ => ⟨S512x360, .i8⟩
  | .local _ .vmem, ⟨2, _⟩ => ⟨S16x512, .f32⟩
  | .local _ .vmem, ⟨3, _⟩ => ⟨S512x2520, .i8⟩
  | .local _ .vmem, ⟨4, _⟩ => ⟨S512x2520, .i8⟩
  | .local _ .vmem, ⟨5, _⟩ => ⟨S16x512, .f32⟩
  | .local _ .vmem, ⟨6, _⟩ => ⟨S360x512, .i8⟩
  | .local _ .vmem, ⟨7, _⟩ => ⟨S360x512, .i8⟩
  | .local _ .vmem, ⟨8, _⟩ => ⟨S1x512, .f32⟩
  | .local _ .vmem, ⟨9, _⟩ => ⟨S1x512, .f32⟩
  | .local _ .vmem, ⟨10, _⟩ => ⟨S1260x512, .i8⟩
  | .local _ .vmem, ⟨11, _⟩ => ⟨S1260x512, .i8⟩
  | .local _ .vmem, ⟨12, _⟩ => ⟨S1x512, .f32⟩
  | .local _ .vmem, ⟨13, _⟩ => ⟨S1x512, .f32⟩
  | .local _ .vmem, ⟨14, _⟩ => ⟨S512x512, .bf16⟩
  | .local _ .vmem, ⟨15, _⟩ => ⟨S512x512, .bf16⟩
  | .local _ .vmem, ⟨16, _⟩ => ⟨S360x512, .bf16⟩
  | .local _ .vmem, ⟨17, _⟩ => ⟨S2520x512, .bf16⟩
  | _, _ => ⟨S8192x360, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_scratch0 : Ref sig .tc := ⟨.vmem, 16, rfl⟩
abbrev cc0_scratch1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨2, ![17, 16], ![false, false]⟩

def k0_off1 (i : grid0.Coords) : Fin 2 → Nat :=
  let arg1 : BitVec 32 := BitVec.ofNat 32 (i 1).val
  let v11 : Index := Scalar.indexCast arg1
  let c0_9 : Index := 0#32
  ![v11.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x360 .i8 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S16x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S512x2520 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S16x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S360x512 .i8 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1260x512 .i8 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== ReferenceIdeal.lean ====
abbrev S8192x360 : Shape := ⟨2, ![8192, 360]⟩
abbrev S16x512 : Shape := ⟨2, ![16, 512]⟩
abbrev S8192x2520 : Shape := ⟨2, ![8192, 2520]⟩
abbrev S360x8640 : Shape := ⟨2, ![360, 8640]⟩
abbrev S8640 : Shape := ⟨1, ![8640]⟩
abbrev S1260x8640 : Shape := ⟨2, ![1260, 8640]⟩
abbrev S8192x1 : Shape := ⟨2, ![8192, 1]⟩
abbrev S1x8640 : Shape := ⟨2, ![1, 8640]⟩
abbrev S8192x8640 : Shape := ⟨2, ![8192, 8640]⟩
abbrev S8192x1260 : Shape := ⟨2, ![8192, 1260]⟩

abbrev nBuf : Space → Nat
  | .hbm => 13
  | .vmem => 9
  | .smem => 0
  | _ => 0

abbrev bufTy : (tb : Table) → Fin (tcTables nBuf tb) → BufTy
  | .hbm, ⟨0, _⟩ => ⟨S8192x360, .i8⟩
  | .hbm, ⟨1, _⟩ => ⟨S16x512, .f32⟩
  | .hbm, ⟨2, _⟩ => ⟨S8192x2520, .i8⟩
  | .hbm, ⟨3, _⟩ => ⟨S16x512, .f32⟩
  | .hbm, ⟨4, _⟩ => ⟨S360x8640, .i8⟩
  | .hbm, ⟨5, _⟩ => ⟨S8640, .f32⟩
  | .hbm, ⟨6, _⟩ => ⟨S1260x8640, .i8⟩
  | .hbm, ⟨7, _⟩ => ⟨S8640, .f32⟩
  | .hbm, ⟨8, _⟩ => ⟨S8192x1, .f32⟩
  | .hbm, ⟨9, _⟩ => ⟨S8192x1, .f32⟩
  | .hbm, ⟨10, _⟩ => ⟨S1x8640, .f32⟩
  | .hbm, ⟨11, _⟩ => ⟨S1x8640, .f32⟩
  | .hbm, ⟨12, _⟩ => ⟨S8192x8640, .bf16⟩
  | .local _ .vmem, ⟨0, _⟩ => ⟨S8192x360, .i8⟩
  | .local _ .vmem, ⟨1, _⟩ => ⟨S8192x1, .f32⟩
  | .local _ .vmem, ⟨2, _⟩ => ⟨S8192x2520, .i8⟩
  | .local _ .vmem, ⟨3, _⟩ => ⟨S8192x1, .f32⟩
  | .local _ .vmem, ⟨4, _⟩ => ⟨S360x8640, .i8⟩
  | .local _ .vmem, ⟨5, _⟩ => ⟨S1x8640, .f32⟩
  | .local _ .vmem, ⟨6, _⟩ => ⟨S1260x8640, .i8⟩
  | .local _ .vmem, ⟨7, _⟩ => ⟨S1x8640, .f32⟩
  | .local _ .vmem, ⟨8, _⟩ => ⟨S8192x8640, .bf16⟩
  | _, _ => ⟨S8192x360, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := .none

abbrev stage0_0 : Fin 1 → Memref sig .tc .vmem S8192x360 .i8 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8192x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8192x2520 .i8 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8192x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S360x8640 .i8 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x8640 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1260x8640 .i8 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x8640 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S8192x8640 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
-- ==== Rotate.lean ====
abbrev S16x512x2880 : Shape := ⟨3, ![16, 512, 2880]⟩
abbrev S2880x2880 : Shape := ⟨2, ![2880, 2880]⟩
abbrev S8192x2880 : Shape := ⟨2, ![8192, 2880]⟩
abbrev S8192x360 : Shape := ⟨2, ![8192, 360]⟩
abbrev S16x512 : Shape := ⟨2, ![16, 512]⟩
abbrev S8192x2520 : Shape := ⟨2, ![8192, 2520]⟩
abbrev S512x2880 : Shape := ⟨2, ![512, 2880]⟩
abbrev S512x360 : Shape := ⟨2, ![512, 360]⟩
abbrev S512x2520 : Shape := ⟨2, ![512, 2520]⟩
abbrev S512 : Shape := ⟨1, ![512]⟩
abbrev S512x1 : Shape := ⟨2, ![512, 1]⟩
abbrev S1x512 : Shape := ⟨2, ![1, 512]⟩

abbrev nBuf : Space → Nat
  | .hbm => 7
  | .vmem => 9
  | .smem => 0
  | _ => 0

abbrev bufTy : (tb : Table) → Fin (tcTables nBuf tb) → BufTy
  | .hbm, ⟨0, _⟩ => ⟨S16x512x2880, .bf16⟩
  | .hbm, ⟨1, _⟩ => ⟨S2880x2880, .bf16⟩
  | .hbm, ⟨2, _⟩ => ⟨S8192x2880, .bf16⟩
  | .hbm, ⟨3, _⟩ => ⟨S8192x360, .i8⟩
  | .hbm, ⟨4, _⟩ => ⟨S16x512, .f32⟩
  | .hbm, ⟨5, _⟩ => ⟨S8192x2520, .i8⟩
  | .hbm, ⟨6, _⟩ => ⟨S16x512, .f32⟩
  | .local _ .vmem, ⟨0, _⟩ => ⟨S512x2880, .bf16⟩
  | .local _ .vmem, ⟨1, _⟩ => ⟨S512x2880, .bf16⟩
  | .local _ .vmem, ⟨2, _⟩ => ⟨S2880x2880, .bf16⟩
  | .local _ .vmem, ⟨3, _⟩ => ⟨S512x360, .i8⟩
  | .local _ .vmem, ⟨4, _⟩ => ⟨S512x360, .i8⟩
  | .local _ .vmem, ⟨5, _⟩ => ⟨S16x512, .f32⟩
  | .local _ .vmem, ⟨6, _⟩ => ⟨S512x2520, .i8⟩
  | .local _ .vmem, ⟨7, _⟩ => ⟨S512x2520, .i8⟩
  | .local _ .vmem, ⟨8, _⟩ => ⟨S16x512, .f32⟩
  | _, _ => ⟨S16x512x2880, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev main_v1_2 : Ref sig .tc := ⟨.hbm, 5, rfl⟩
abbrev main_v1_3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8

abbrev nD : Nat := 1
abbrev τ : Topo := Topo.v7x

variable {F : FTy → Type} [FloatOps F]

abbrev grid0 : Pipeline.Grid := ⟨1, ![16], ![false]⟩

def k0_off1 (i : grid0.Coords) : Fin 2 → Nat :=
  let arg0 : BitVec 32 := BitVec.ofNat 32 (i 0).val
  let v55 : Index := Scalar.indexCast arg0
  let c0_22 : Index := 0#32
  ![v55.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2880 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2880x2880 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x360 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S16x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2520 .i8 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S16x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== RotateReferenceIdeal.lean ====
abbrev S16x512x2880 : Shape := ⟨3, ![16, 512, 2880]⟩
abbrev S2880x2880 : Shape := ⟨2, ![2880, 2880]⟩
abbrev S8192x2880 : Shape := ⟨2, ![8192, 2880]⟩
abbrev S8192x360 : Shape := ⟨2, ![8192, 360]⟩
abbrev S16x512 : Shape := ⟨2, ![16, 512]⟩
abbrev S8192x2520 : Shape := ⟨2, ![8192, 2520]⟩
abbrev S8192 : Shape := ⟨1, ![8192]⟩
abbrev S8192x1 : Shape := ⟨2, ![8192, 1]⟩

abbrev nBuf : Space → Nat
  | .hbm => 7
  | .vmem => 6
  | .smem => 0
  | _ => 0

abbrev bufTy : (tb : Table) → Fin (tcTables nBuf tb) → BufTy
  | .hbm, ⟨0, _⟩ => ⟨S16x512x2880, .bf16⟩
  | .hbm, ⟨1, _⟩ => ⟨S2880x2880, .bf16⟩
  | .hbm, ⟨2, _⟩ => ⟨S8192x2880, .bf16⟩
  | .hbm, ⟨3, _⟩ => ⟨S8192x360, .i8⟩
  | .hbm, ⟨4, _⟩ => ⟨S16x512, .f32⟩
  | .hbm, ⟨5, _⟩ => ⟨S8192x2520, .i8⟩
  | .hbm, ⟨6, _⟩ => ⟨S16x512, .f32⟩
  | .local _ .vmem, ⟨0, _⟩ => ⟨S8192x2880, .bf16⟩
  | .local _ .vmem, ⟨1, _⟩ => ⟨S2880x2880, .bf16⟩
  | .local _ .vmem, ⟨2, _⟩ => ⟨S8192x360, .i8⟩
  | .local _ .vmem, ⟨3, _⟩ => ⟨S16x512, .f32⟩
  | .local _ .vmem, ⟨4, _⟩ => ⟨S8192x2520, .i8⟩
  | .local _ .vmem, ⟨5, _⟩ => ⟨S16x512, .f32⟩
  | _, _ => ⟨S16x512x2880, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev main_v1_2 : Ref sig .tc := ⟨.hbm, 5, rfl⟩
abbrev main_v1_3 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S8192x2880 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2880x2880 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8192x360 .i8 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S16x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8192x2520 .i8 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S16x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.KBody.lean ====
/-
  The product call's body, run once at a grid point.

  The nine windows and the two scratch buffers (the decoded weights of the current column tile) are held whole. At
  the first row block of a column tile the body decodes the weights into the scratch buffers; at any other it leaves
  them. Either way it stores the tile of `y` that it computes from what the scratch buffers then hold.
-/
module

public import proofs.«01_k».proof.Proof.Gen.Kernel.Skeleton
public import proofs.«01_k».proof.Proof.Gen.Kernel.Launch
public import proofs.«01_k».proof.Proof.Gen.Kernel.Points
public import Idealize.ShloMosaic.Lib.Pipeline.Frame
public import Idealize.ShloMosaic.Lib.Pipeline.Value
public import Idealize.ShloMosaic.Lib.VecWindow
public import Idealize.ShloMosaic.Lib.Tactic

@[expose] public section

set_option maxRecDepth 16384

noncomputable section

namespace Cert.Kernel.Hand

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

/-- The row of a scale array that the point at coordinates `i` reads. -/
abbrev rowR (i : grid0.Coords) : Rect S16x512 := Rect.unit (s := S16x512) (k0_off1 i) S1x512.size (k0_off1_inb i)

/-- The upper and the lower half of the second scratch buffer. -/
abbrev rTop : Rect S2520x512 := Rect.unit (s := S2520x512) ![0, 0] S1260x512.size inb_S2520x512_S1260x512_0_0
abbrev rBot : Rect S2520x512 := Rect.unit (s := S2520x512) ![1260, 0] S1260x512.size inb_S2520x512_S1260x512_1260_0

/-- The decoded 4-bit weights of a column tile, the low nibbles above the high ones. -/
def lW (w : Vec F S1260x512 .i8) : Vec F S2520x512 .bf16 :=
  View.canon [(⟨rBot, k0_pay4 w⟩ : View.Piece (Elt F) S2520x512 .bf16), ⟨rTop, k0_pay3 w⟩]

/-- The tile of `y` from the blocks and the scratch buffers. -/
def yB (i : grid0.Coords) (x2 : Vec F S512x360 .i8) (s11 : Vec F S360x512 .bf16) (x4 : Vec F S512x2520 .i8) (s12 : Vec F S2520x512 .bf16)
    (x3 x5 : Vec F S16x512 .f32) (x7 x9 : Vec F S1x512 .f32) : FVec F S512x512 .bf16 :=
  k0_pay5 x2 s11 x4 s12 (View.ld x3 (rowR i)) (View.ld x5 (rowR i)) x7 x9

/-- The guard of the decoding branch, as the program prints it. -/
abbrev guard (i : grid0.Coords) : BitVec 1 :=
  Scalar.cmpi .ne (Scalar.extui (Scalar.cmpi .eq (BitVec.ofNat 32 (i 1).val) 0#32) : BitVec 32) 0#32

/-- The stored tile, once each read is known. -/
theorem y_close (i : grid0.Coords) {x2 a2 : Vec F S512x360 .i8} {s11 a11 : Vec F S360x512 .bf16} {x4 a4 : Vec F S512x2520 .i8} {s12 a12 : Vec F S2520x512 .bf16}
    {x3 x5 : Vec F S16x512 .f32} {a3 a5 : Vec F S1x512 .f32} {x7 x9 a7 a9 : Vec F S1x512 .f32} (h2 : a2 = x2) (h11 : a11 = s11) (h4 : a4 = x4) (h12 : a12 = s12)
    (h3 : a3 = View.ld x3 (rowR i)) (h5 : a5 = View.ld x5 (rowR i)) (h7 : a7 = x7) (h9 : a9 = x9) :
    k0_pay5 a2 a11 a4 a12 a3 a5 a7 a9 = yB i x2 s11 x4 s12 x3 x5 x7 x9 := by
  subst h2 h11 h4 h12 h3 h5 h7 h9; rfl

/-- A full read, of contents that read as `x`. -/
theorem full_read {s : Shape} {e : EltTy} (M : Memref sig .tc .vmem s e) (f : M.view.ty.Contents (Elt F)) {x : s.Idx → Elt F e} (h : M.view.read (Elt F) f = x)
    {off : Fin s.rank → ℕ} (inb : ∀ a, off a + s.size a ≤ s.size a) :
    M.view.readAt (Elt F) (Rect.unit off s.size inb).toLoadRect f = x :=
  (View.readAt_full M.view f inb).trans h

/-- The second scratch buffer reads as the decoded weights after its two stores. -/
theorem lW_read (M : Memref sig .tc .vmem S2520x512 .bf16) (f : M.view.ty.Contents (Elt F)) {a x : Vec F S1260x512 .i8} (h : a = x) :
    M.view.read (Elt F) (M.view.writes (Elt F) f [⟨rBot, k0_pay4 a⟩, ⟨rTop, k0_pay3 a⟩]) = lW x := by
  subst h
  exact View.read_writes_eq_canon _ _ _ (View.cover_of_tiled _ S1260x512.size (by rfl))

set_option maxHeartbeats 1000000 in
/-- The body's triple at a point that does not decode. -/
theorem sound_lin_else (c : Dev nD) (E : Set ℕ) (i : grid0.Coords) (hg : ¬ guard i = 1#1)
    (arg2 : Memref sig .tc .vmem S512x360 .i8) (harg2 : arg2.IsWhole) (arg3 : Memref sig .tc .vmem S16x512 .f32) (harg3 : arg3.IsWhole) (arg4 : Memref sig .tc .vmem S512x2520 .i8) (harg4 : arg4.IsWhole) (arg5 : Memref sig .tc .vmem S16x512 .f32) (harg5 : arg5.IsWhole) (arg6 : Memref sig .tc .vmem S360x512 .i8) (harg6 : arg6.IsWhole) (arg7 : Memref sig .tc .vmem S1x512 .f32) (harg7 : arg7.IsWhole) (arg8 : Memref sig .tc .vmem S1260x512 .i8) (harg8 : arg8.IsWhole) (arg9 : Memref sig .tc .vmem S1x512 .f32) (harg9 : arg9.IsWhole) (arg10 : Memref sig .tc .vmem S512x512 .bf16) (harg10 : arg10.IsWhole) (arg11 : Memref sig .tc .vmem S360x512 .bf16) (harg11 : arg11.IsWhole) (arg12 : Memref sig .tc .vmem S2520x512 .bf16) (harg12 : arg12.IsWhole)
    (x2 : Vec F S512x360 .i8) (x3 : Vec F S16x512 .f32) (x4 : Vec F S512x2520 .i8) (x5 : Vec F S16x512 .f32) (x6 : Vec F S360x512 .i8) (x7 : Vec F S1x512 .f32) (x8 : Vec F S1260x512 .i8) (x9 : Vec F S1x512 .f32) (x10 : Vec F S512x512 .bf16) (s11 : Vec F S360x512 .bf16) (s12 : Vec F S2520x512 .bf16)
    (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10
        ∗ owns (c : Thread nD τ) arg11 fullShare s11 ∗ owns (c : Thread nD τ) arg12 fullShare s12
        ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9
            ∗ owns (c : Thread nD τ) arg10 fullShare (yB i x2 s11 x4 s12 x3 x5 x7 x9)
            ∗ owns (c : Thread nD τ) arg11 fullShare s11 ∗ owns (c : Thread nD τ) arg12 fullShare s12) -∗ K ⟨⟩))
      ⊢ wp frame (wpE (defs₀ (F := F)) Variants.none c none) E (cc0_mixed_linear i arg2 harg2 arg3 harg3 arg4 harg4 arg5 harg5 arg6 harg6 arg7 harg7 arg8 harg8 arg9 harg9 arg10 harg10 arg11 harg11 arg12 harg12) K := by
  simp only [cc0_mixed_linear_eq_skeleton]; unfold cc0_mixed_linear_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, -, H10⟩, ⟨%f11, %hf11, H11⟩, ⟨%f12, %hf12, H12⟩, Hk⟩
  sl_exec
  sl_step
  iapply Hk
  isplitl [H2]
  · iexists f2; isplitr; · ipureintro; exact hf2
    iexact H2
  isplitl [H3]
  · iexists f3; isplitr; · ipureintro; exact hf3
    iexact H3
  isplitl [H4]
  · iexists f4; isplitr; · ipureintro; exact hf4
    iexact H4
  isplitl [H5]
  · iexists f5; isplitr; · ipureintro; exact hf5
    iexact H5
  isplitl [H6]
  · iexists f6; isplitr; · ipureintro; exact hf6
    iexact H6
  isplitl [H7]
  · iexists f7; isplitr; · ipureintro; exact hf7
    iexact H7
  isplitl [H8]
  · iexists f8; isplitr; · ipureintro; exact hf8
    iexact H8
  isplitl [H9]
  · iexists f9; isplitr; · ipureintro; exact hf9
    iexact H9
  isplitl [H10]
  · iexists _; isplitr
    swap; · iexact H10
    ipureintro
    refine (View.read_writes_eq_canon _ _ _ (View.cover_of_tiled _ S512x512.size (by rfl))).trans ?_
    refine (View.canon_unit_zero (by funext a; fin_cases a <;> rfl) _ _).trans ?_
    exact y_close i (full_read arg2 f2 hf2 _) (full_read arg11 f11 hf11 _) (full_read arg4 f4 hf4 _) (full_read arg12 f12 hf12 _)
      (congrArg (fun x => View.ld x (rowR i)) hf3) (congrArg (fun x => View.ld x (rowR i)) hf5) (full_read arg7 f7 hf7 _) (full_read arg9 f9 hf9 _)
  isplitl [H11]
  · iexists f11; isplitr; · ipureintro; exact hf11
    iexact H11
  iexists f12; isplitr; · ipureintro; exact hf12
  iexact H12

set_option maxHeartbeats 1000000 in
/-- The body's triple at a point that decodes. -/
theorem sound_lin_then (c : Dev nD) (E : Set ℕ) (i : grid0.Coords) (hg : guard i = 1#1)
    (arg2 : Memref sig .tc .vmem S512x360 .i8) (harg2 : arg2.IsWhole) (arg3 : Memref sig .tc .vmem S16x512 .f32) (harg3 : arg3.IsWhole) (arg4 : Memref sig .tc .vmem S512x2520 .i8) (harg4 : arg4.IsWhole) (arg5 : Memref sig .tc .vmem S16x512 .f32) (harg5 : arg5.IsWhole) (arg6 : Memref sig .tc .vmem S360x512 .i8) (harg6 : arg6.IsWhole) (arg7 : Memref sig .tc .vmem S1x512 .f32) (harg7 : arg7.IsWhole) (arg8 : Memref sig .tc .vmem S1260x512 .i8) (harg8 : arg8.IsWhole) (arg9 : Memref sig .tc .vmem S1x512 .f32) (harg9 : arg9.IsWhole) (arg10 : Memref sig .tc .vmem S512x512 .bf16) (harg10 : arg10.IsWhole) (arg11 : Memref sig .tc .vmem S360x512 .bf16) (harg11 : arg11.IsWhole) (arg12 : Memref sig .tc .vmem S2520x512 .bf16) (harg12 : arg12.IsWhole)
    (x2 : Vec F S512x360 .i8) (x3 : Vec F S16x512 .f32) (x4 : Vec F S512x2520 .i8) (x5 : Vec F S16x512 .f32) (x6 : Vec F S360x512 .i8) (x7 : Vec F S1x512 .f32) (x8 : Vec F S1260x512 .i8) (x9 : Vec F S1x512 .f32) (x10 : Vec F S512x512 .bf16) (s11 : Vec F S360x512 .bf16) (s12 : Vec F S2520x512 .bf16)
    (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10
        ∗ owns (c : Thread nD τ) arg11 fullShare s11 ∗ owns (c : Thread nD τ) arg12 fullShare s12
        ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9
            ∗ owns (c : Thread nD τ) arg10 fullShare (yB i x2 (k0_pay1 x6) x4 (lW x8) x3 x5 x7 x9)
            ∗ owns (c : Thread nD τ) arg11 fullShare (k0_pay1 x6) ∗ owns (c : Thread nD τ) arg12 fullShare (lW x8)) -∗ K ⟨⟩))
      ⊢ wp frame (wpE (defs₀ (F := F)) Variants.none c none) E (cc0_mixed_linear i arg2 harg2 arg3 harg3 arg4 harg4 arg5 harg5 arg6 harg6 arg7 harg7 arg8 harg8 arg9 harg9 arg10 harg10 arg11 harg11 arg12 harg12) K := by
  simp only [cc0_mixed_linear_eq_skeleton]; unfold cc0_mixed_linear_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, -, H10⟩, ⟨%f11, %hf11, H11⟩, ⟨%f12, %hf12, H12⟩, Hk⟩
  sl_exec
  sl_step
  iapply Hk
  isplitl [H2]
  · iexists f2; isplitr; · ipureintro; exact hf2
    iexact H2
  isplitl [H3]
  · iexists f3; isplitr; · ipureintro; exact hf3
    iexact H3
  isplitl [H4]
  · iexists f4; isplitr; · ipureintro; exact hf4
    iexact H4
  isplitl [H5]
  · iexists f5; isplitr; · ipureintro; exact hf5
    iexact H5
  isplitl [H6]
  · iexists f6; isplitr; · ipureintro; exact hf6
    iexact H6
  isplitl [H7]
  · iexists f7; isplitr; · ipureintro; exact hf7
    iexact H7
  isplitl [H8]
  · iexists f8; isplitr; · ipureintro; exact hf8
    iexact H8
  isplitl [H9]
  · iexists f9; isplitr; · ipureintro; exact hf9
    iexact H9
  isplitl [H10]
  · iexists _; isplitr
    swap; · iexact H10
    ipureintro
    refine (View.read_writes_eq_canon _ _ _ (View.cover_of_tiled _ S512x512.size (by rfl))).trans ?_
    refine (View.canon_unit_zero (by funext a; fin_cases a <;> rfl) _ _).trans ?_
    exact y_close i (full_read arg2 f2 hf2 _) ((View.readCov_full arg11.view _ _ _ _).trans (congrArg k0_pay1 (full_read arg6 f6 hf6 _))) (full_read arg4 f4 hf4 _)
      ((View.readAt_full arg12.view _ _).trans (lW_read arg12 _ (full_read arg8 f8 hf8 _)))
      (congrArg (fun x => View.ld x (rowR i)) hf3) (congrArg (fun x => View.ld x (rowR i)) hf5) (full_read arg7 f7 hf7 _) (full_read arg9 f9 hf9 _)
  isplitl [H11]
  · iexists _; isplitr
    swap; · iexact H11
    ipureintro
    refine (View.read_writes_eq_canon _ _ _ (View.cover_of_tiled _ S360x512.size (by rfl))).trans ?_
    refine (View.canon_unit_zero (by funext a; fin_cases a <;> rfl) _ _).trans ?_
    exact congrArg k0_pay1 (full_read arg6 f6 hf6 _)
  iexists _; isplitr
  swap; · iexact H12
  ipureintro
  exact lW_read arg12 f12 (full_read arg8 f8 hf8 _)

end Cert.Kernel.Hand

end
-- ==== Proof.KData.lean ====
/-
  The proof data of the product call: what each window's buffer holds at a grid point.

  The weight and weight-scale windows are clipped at the last column tile: their buffers hold the block on the columns
  inside the array, and words nothing names past them. The data take what the body leaves in the output window and
  what is known of the scratch buffers as parameters.
-/
module

public import proofs.«01_k».proof.Proof.KBody
public import proofs.«01_k».proof.Proof.Gen.Kernel.Frame

@[expose] public section

noncomputable section

namespace Cert.Kernel.Hand

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A window's buffer at a point: the block on the part inside the array, `d` elsewhere. -/
abbrev held (c : Dev nD) (w : Fin cfg0.W) (t : Fin cfg0.N) (d : (cfg0.win w).block.Idx → Elt F (cfg0.win w).elt) :
    (cfg0.win w).block.Idx → Elt F (cfg0.win w).elt :=
  (cfg0.win w).fill (cfg0.grid.coords t) d (iblk m c w t)

/-- The words past the array's end in the proof data; nothing reads them. -/
abbrev zi : Elt F .i8 := (0#8 : BitVec 8)
abbrev zf : Elt F .f32 := Scalar.ofBits .f32 0#32

/-- What is known between points: for each device and position, an assertion. -/
abbrev Inv (F : FTy → Type) [FloatOps F] : Type := Dev nD → Fin (grid0.N + 1) → sProp (MT nD τ sig Unit (Elt F) ℕ (UR sig nD τ) ℕ)

/-- The proof data: the arrays as the region finds them, each input left as found, the output at `out`, the scratch
    buffers at `Φ`. -/
def dats (out : Dev nD → Fin cfg0.N → Vec F S512x512 .bf16) (Φ : Inv F) (_ : Fin 1) (c : Dev nD) :
    Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => held m c 4 t fun _ => zi
    | ⟨5, _⟩ => held m c 5 t fun _ => zf
    | ⟨6, _⟩ => held m c 6 t fun _ => zi
    | ⟨7, _⟩ => held m c 7 t fun _ => zf
    | ⟨8, _⟩ => out c t
  Φ t := Φ c t
  q _ := fullShare
  owed _ := 0

variable (out : Dev nD → Fin cfg0.N → Vec F S512x512 .bf16) (Φ : Inv F)

theorem A_eq (c : Dev nD) (w : Fin cfg0.W) : (dats m out Φ 0 c).A w = V m c (Pipeline.arrRef spec0 w) := by dsimp only [dats]
theorem after0 (c : Dev nD) (t : Fin cfg0.N) : (dats m out Φ 0 c).after 0 t = iblk m c 0 t := by dsimp only [dats]
theorem after1 (c : Dev nD) (t : Fin cfg0.N) : (dats m out Φ 0 c).after 1 t = iblk m c 1 t := by dsimp only [dats]
theorem after2 (c : Dev nD) (t : Fin cfg0.N) : (dats m out Φ 0 c).after 2 t = iblk m c 2 t := by dsimp only [dats]
theorem after3 (c : Dev nD) (t : Fin cfg0.N) : (dats m out Φ 0 c).after 3 t = iblk m c 3 t := by dsimp only [dats]
theorem after4 (c : Dev nD) (t : Fin cfg0.N) : (dats m out Φ 0 c).after 4 t = held m c 4 t fun _ => zi := by dsimp only [dats]
theorem after5 (c : Dev nD) (t : Fin cfg0.N) : (dats m out Φ 0 c).after 5 t = held m c 5 t fun _ => zf := by dsimp only [dats]
theorem after6 (c : Dev nD) (t : Fin cfg0.N) : (dats m out Φ 0 c).after 6 t = held m c 6 t fun _ => zi := by dsimp only [dats]
theorem after7 (c : Dev nD) (t : Fin cfg0.N) : (dats m out Φ 0 c).after 7 t = held m c 7 t fun _ => zf := by dsimp only [dats]
theorem after8 (c : Dev nD) (t : Fin cfg0.N) : (dats m out Φ 0 c).after 8 t = out c t := by dsimp only [dats]

/-- The row windows hold their blocks at every point. -/
theorem before0 (c : Dev nD) (t : Fin cfg0.N) (d) : (dats m out Φ 0 c).before 0 t d = iblk m c 0 t :=
  before0_0_of m (dats m out Φ 0 c) (A_eq m out Φ c 0) (after0 m out Φ c) t d
theorem before1 (c : Dev nD) (t : Fin cfg0.N) (d) : (dats m out Φ 0 c).before 1 t d = iblk m c 1 t :=
  before0_1_of m (dats m out Φ 0 c) (A_eq m out Φ c 1) (after1 m out Φ c) t d
theorem before2 (c : Dev nD) (t : Fin cfg0.N) (d) : (dats m out Φ 0 c).before 2 t d = iblk m c 2 t :=
  before0_2_of m (dats m out Φ 0 c) (A_eq m out Φ c 2) (after2 m out Φ c) t d
theorem before3 (c : Dev nD) (t : Fin cfg0.N) (d) : (dats m out Φ 0 c).before 3 t d = iblk m c 3 t :=
  before0_3_of m (dats m out Φ 0 c) (A_eq m out Φ c 3) (after3 m out Φ c) t d

/-- The cuts of the column windows depend on the block's index only. -/
theorem clip4 (t t' : Fin cfg0.N) (h : (cfg0.win 4).index t = (cfg0.win 4).index t') :
    (cfg0.win 4).clip (cfg0.grid.coords t) = (cfg0.win 4).clip (cfg0.grid.coords t') :=
  funext fun a => congrArg (fun n => Pipeline.Clip.of n (S360x512.size a) (S360x8640.size a)) (congrFun h a)
theorem clip5 (t t' : Fin cfg0.N) (h : (cfg0.win 5).index t = (cfg0.win 5).index t') :
    (cfg0.win 5).clip (cfg0.grid.coords t) = (cfg0.win 5).clip (cfg0.grid.coords t') :=
  funext fun a => congrArg (fun n => Pipeline.Clip.of n (S1x512.size a) (S1x8640.size a)) (congrFun h a)
theorem clip6 (t t' : Fin cfg0.N) (h : (cfg0.win 6).index t = (cfg0.win 6).index t') :
    (cfg0.win 6).clip (cfg0.grid.coords t) = (cfg0.win 6).clip (cfg0.grid.coords t') :=
  funext fun a => congrArg (fun n => Pipeline.Clip.of n (S1260x512.size a) (S1260x8640.size a)) (congrFun h a)
theorem clip7 (t t' : Fin cfg0.N) (h : (cfg0.win 7).index t = (cfg0.win 7).index t') :
    (cfg0.win 7).clip (cfg0.grid.coords t) = (cfg0.win 7).clip (cfg0.grid.coords t') :=
  funext fun a => congrArg (fun n => Pipeline.Clip.of n (S1x512.size a) (S1x8640.size a)) (congrFun h a)

/-- The block of window `w` that the data name is the block of the array as the region finds it. -/
theorem blockOf_eq (c : Dev nD) (w : Fin cfg0.W) (t : Fin cfg0.N) : (dats m out Φ 0 c).blockOf w t = iblk m c w t := by
  unfold Dat.blockOf iblk; rw [A_eq]; try rfl

/-- A column window whose body leaves its block holds that block, fetched there or not, and anything past the array. -/
theorem before_held (c : Dev nD) (w : Fin cfg0.W) (hw : (cfg0.win w).isOut = false) (z : (cfg0.win w).block.Idx → Elt F (cfg0.win w).elt)
    (hclip : ∀ t t' : Fin cfg0.N, (cfg0.win w).index t = (cfg0.win w).index t' →
      (cfg0.win w).clip (cfg0.grid.coords t) = (cfg0.win w).clip (cfg0.grid.coords t'))
    (hafter : ∀ t, (dats m out Φ 0 c).after w t = held m c w t z) (t : Fin cfg0.N) (d) :
    (dats m out Φ 0 c).before w t d = held m c w t d :=
  ((dats m out Φ 0 c).before_in_eq_fetched w hw (fun _ => rfl) hclip
    (fun t => by rw [hafter, blockOf_eq]; exact (cfg0.win w).cut_fill _ _ _) t d).trans (by unfold Dat.fetched; rw [blockOf_eq])

theorem before4 (c : Dev nD) (t : Fin cfg0.N) (d) : (dats m out Φ 0 c).before 4 t d = held m c 4 t d :=
  before_held m out Φ c 4 rfl _ clip4 (after4 m out Φ c) t d
theorem before5 (c : Dev nD) (t : Fin cfg0.N) (d) : (dats m out Φ 0 c).before 5 t d = held m c 5 t d :=
  before_held m out Φ c 5 rfl _ clip5 (after5 m out Φ c) t d
theorem before6 (c : Dev nD) (t : Fin cfg0.N) (d) : (dats m out Φ 0 c).before 6 t d = held m c 6 t d :=
  before_held m out Φ c 6 rfl _ clip6 (after6 m out Φ c) t d
theorem before7 (c : Dev nD) (t : Fin cfg0.N) (d) : (dats m out Φ 0 c).before 7 t d = held m c 7 t d :=
  before_held m out Φ c 7 rfl _ clip7 (after7 m out Φ c) t d

/-- What a column window's obligation asks after the body, from its buffer still as found. -/
theorem left_held (c : Dev nD) (w : Fin cfg0.W) (z : (cfg0.win w).block.Idx → Elt F (cfg0.win w).elt)
    (hafter : ∀ t, (dats m out Φ 0 c).after w t = held m c w t z) (t : Fin cfg0.N) (d) :
    (cfg0.win w).fill (cfg0.grid.coords t) d ((cfg0.win w).cut (cfg0.grid.coords t) ((dats m out Φ 0 c).after w t)) = held m c w t d := by
  rw [hafter]; exact congrArg _ ((cfg0.win w).cut_fill _ _ _)

/-- The body table's row at point `t`'s slots is the body at that point. -/
theorem defs₀_row (t : Fin cfg0.N) :
    defs₀ (F := F) .tc cfg0.body (cfg0.bodyArgs t (cfg0.slots t)) = bodyAt0 t := by
  unfold defs₀; rw [Defs.onTc_tc]

/-- The body at any point, the scratch buffers at any contents: the windows keep what they hold and the tile is
    stored from the scratch buffers' contents after the point, which are the decoded weights if the point decodes. -/
theorem sound_at (c : Dev nD) (t : Fin cfg0.N) (x2 : Vec F S512x360 .i8) (x3 : Vec F S16x512 .f32) (x4 : Vec F S512x2520 .i8) (x5 : Vec F S16x512 .f32) (x6 : Vec F S360x512 .i8) (x7 : Vec F S1x512 .f32) (x8 : Vec F S1260x512 .i8) (x9 : Vec F S1x512 .f32) (x10 : Vec F S512x512 .bf16) (s11 : Vec F S360x512 .bf16) (s12 : Vec F S2520x512 .bf16)
    (K : PUnit → sProp 𝕄) :
    iprop(owns (c : Thread nD τ) (st0_0 t) fullShare x2 ∗ owns (c : Thread nD τ) (st0_1 t) fullShare x3 ∗ owns (c : Thread nD τ) (st0_2 t) fullShare x4 ∗ owns (c : Thread nD τ) (st0_3 t) fullShare x5 ∗ owns (c : Thread nD τ) (st0_4 t) fullShare x6 ∗ owns (c : Thread nD τ) (st0_5 t) fullShare x7 ∗ owns (c : Thread nD τ) (st0_6 t) fullShare x8 ∗ owns (c : Thread nD τ) (st0_7 t) fullShare x9 ∗ owns (c : Thread nD τ) (st0_8 t) fullShare x10
        ∗ owns (c : Thread nD τ) (Memref.whole cc0_scratch0) fullShare s11 ∗ owns (c : Thread nD τ) (Memref.whole cc0_scratch1) fullShare s12
        ∗ (iprop(∃ s11' s12', ⌜(guard (grid0.coords t) = 1#1 ∧ s11' = k0_pay1 x6 ∧ s12' = lW x8) ∨ (¬ guard (grid0.coords t) = 1#1 ∧ s11' = s11 ∧ s12' = s12)⌝
            ∗ owns (c : Thread nD τ) (st0_0 t) fullShare x2 ∗ owns (c : Thread nD τ) (st0_1 t) fullShare x3 ∗ owns (c : Thread nD τ) (st0_2 t) fullShare x4 ∗ owns (c : Thread nD τ) (st0_3 t) fullShare x5 ∗ owns (c : Thread nD τ) (st0_4 t) fullShare x6 ∗ owns (c : Thread nD τ) (st0_5 t) fullShare x7 ∗ owns (c : Thread nD τ) (st0_6 t) fullShare x8 ∗ owns (c : Thread nD τ) (st0_7 t) fullShare x9
            ∗ owns (c : Thread nD τ) (st0_8 t) fullShare (yB (grid0.coords t) x2 s11' x4 s12' x3 x5 x7 x9)
            ∗ owns (c : Thread nD τ) (Memref.whole cc0_scratch0) fullShare s11' ∗ owns (c : Thread nD τ) (Memref.whole cc0_scratch1) fullShare s12') -∗ K ⟨⟩))
      ⊢ wp frame (wpE (defs₀ (F := F)) Variants.none c none) Set.univ (bodyAt0 t) K := by
  unfold bodyAt0
  by_cases hg : guard (grid0.coords t) = 1#1
  · iintro ⟨H0, H1, H2, H3, H4, H5, H6, H7, H8, S0, S1, Hk⟩
    iapply (sound_lin_then c Set.univ (grid0.coords t) hg _ _ _ _ _ _ _ _ _ _ _ _ _ _ _ _ _ _ _ _ _ _ x2 x3 x4 x5 x6 x7 x8 x9 x10 s11 s12 K)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [S0]; · iexact S0
    isplitl [S1]; · iexact S1
    iintro H
    iapply Hk
    iexists (k0_pay1 x6); iexists (lW x8)
    isplitr; · ipureintro; exact .inl ⟨hg, rfl, rfl⟩
    iexact H
  · iintro ⟨H0, H1, H2, H3, H4, H5, H6, H7, H8, S0, S1, Hk⟩
    iapply (sound_lin_else c Set.univ (grid0.coords t) hg _ _ _ _ _ _ _ _ _ _ _ _ _ _ _ _ _ _ _ _ _ _ x2 x3 x4 x5 x6 x7 x8 x9 x10 s11 s12 K)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [S0]; · iexact S0
    isplitl [S1]; · iexact S1
    iintro H
    iapply Hk
    iexists s11; iexists s12
    isplitr; · ipureintro; exact .inr ⟨hg, rfl, rfl⟩
    iexact H

end Cert.Kernel.Hand

end
-- ==== Proof.KForget.lean ====
/-
  The frame of the product call: it terminates, its arguments end as they were, every semaphore counter ends at zero.
  Nothing is said of the output, and between points nothing is known of the scratch buffers.
-/
module

public import proofs.«01_k».proof.Proof.KData

@[expose] public section

noncomputable section

namespace Cert.Kernel.Hand

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The data of the frame: the output at a word nothing reads, the scratch buffers at anything. -/
abbrev fdats := dats m (fun _ _ _ => Scalar.ofBits .bf16 0#16) (fun c _ => Pipeline.ΦA spec0 c)

/-- Its arrays are those the region finds. -/
theorem fA (c : Dev nD) (w : Fin cfg0.W) : (fdats m 0 c).A w = V m c (Pipeline.arrRef spec0 w) := A_eq m _ _ c w

/-- The forgotten window: the output. -/
abbrev fgt (w : Fin cfg0.W) : Bool := match w with | ⟨8, _⟩ => true | _ => false

/-- What the body is called with at a point, -/
def fPre (c : Dev nD) (t : Fin cfg0.N) : sProp 𝕄 :=
  iprop((fdats m 0 c).Φ t.castSucc ∗ (fdats m 0 c).owesAt () t.castSucc
    ∗ (∃ d, owns (c : Thread nD τ) (st0_0 t) fullShare ((fdats m 0 c).before 0 t d))
    ∗ (∃ d, owns (c : Thread nD τ) (st0_1 t) fullShare ((fdats m 0 c).before 1 t d))
    ∗ (∃ d, owns (c : Thread nD τ) (st0_2 t) fullShare ((fdats m 0 c).before 2 t d))
    ∗ (∃ d, owns (c : Thread nD τ) (st0_3 t) fullShare ((fdats m 0 c).before 3 t d))
    ∗ (∃ d, owns (c : Thread nD τ) (st0_4 t) fullShare ((fdats m 0 c).before 4 t d))
    ∗ (∃ d, owns (c : Thread nD τ) (st0_5 t) fullShare ((fdats m 0 c).before 5 t d))
    ∗ (∃ d, owns (c : Thread nD τ) (st0_6 t) fullShare ((fdats m 0 c).before 6 t d))
    ∗ (∃ d, owns (c : Thread nD τ) (st0_7 t) fullShare ((fdats m 0 c).before 7 t d))
    ∗ (∃ X, owns (c : Thread nD τ) (st0_8 t) fullShare X))

/-- and what it returns: the clipped windows are stated on the part inside the array. -/
def fPost (c : Dev nD) (t : Fin cfg0.N) : sProp 𝕄 :=
  iprop((fdats m 0 c).Φ t.succ ∗ (fdats m 0 c).owesAt () t.succ
    ∗ owns (c : Thread nD τ) (st0_0 t) fullShare ((fdats m 0 c).after 0 t)
    ∗ owns (c : Thread nD τ) (st0_1 t) fullShare ((fdats m 0 c).after 1 t)
    ∗ owns (c : Thread nD τ) (st0_2 t) fullShare ((fdats m 0 c).after 2 t)
    ∗ owns (c : Thread nD τ) (st0_3 t) fullShare ((fdats m 0 c).after 3 t)
    ∗ (∃ d, owns (c : Thread nD τ) (st0_4 t) fullShare ((cfg0.win 4).fill (cfg0.grid.coords t) d ((cfg0.win 4).cut (cfg0.grid.coords t) ((fdats m 0 c).after 4 t))))
    ∗ (∃ d, owns (c : Thread nD τ) (st0_5 t) fullShare ((cfg0.win 5).fill (cfg0.grid.coords t) d ((cfg0.win 5).cut (cfg0.grid.coords t) ((fdats m 0 c).after 5 t))))
    ∗ (∃ d, owns (c : Thread nD τ) (st0_6 t) fullShare ((cfg0.win 6).fill (cfg0.grid.coords t) d ((cfg0.win 6).cut (cfg0.grid.coords t) ((fdats m 0 c).after 6 t))))
    ∗ (∃ d, owns (c : Thread nD τ) (st0_7 t) fullShare ((cfg0.win 7).fill (cfg0.grid.coords t) d ((cfg0.win 7).cut (cfg0.grid.coords t) ((fdats m 0 c).after 7 t))))
    ∗ (∃ X, owns (c : Thread nD τ) (st0_8 t) fullShare X))

/-- The body takes the one to the other at every point. -/
theorem fsound (c : Dev nD) (t : Fin cfg0.N) :
    fPre m c t ⊢ wp frame (wpE (defs₀ (F := F)) Variants.none c none) Set.univ (bodyAt0 t) (fun _ => fPost m c t) := by
  unfold fPre fPost
  simp only [before0, before1, before2, before3, before4, before5, before6, before7]
  rw [show (fdats m 0 c).Φ t.castSucc = Pipeline.ΦA spec0 c from rfl,
    show (fdats m 0 c).Φ t.succ = Pipeline.ΦA spec0 c from rfl,
    show (fdats m 0 c).owesAt () t.succ = (fdats m 0 c).owesAt () t.castSucc from rfl, after0, after1, after2, after3]
  simp only [left_held m _ _ c 4 _ (after4 m _ _ c), left_held m _ _ c 5 _ (after5 m _ _ c), left_held m _ _ c 6 _ (after6 m _ _ c), left_held m _ _ c 7 _ (after7 m _ _ c)]
  unfold Pipeline.ΦA
  rw [scopedRest0_eq]
  simp only [← owns_whole]
  iintro ⟨⟨⟨⟨%s0, S0⟩, ⟨%s1, S1⟩⟩, HP⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_at c t (iblk m c 0 t) (iblk m c 1 t) (iblk m c 2 t) (iblk m c 3 t) (held m c 4 t d4) (held m c 5 t d5) (held m c 6 t d6) (held m c 7 t d7) d8 s0 s1 _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [S0]; · iexact S0
  isplitl [S1]; · iexact S1
  iintro ⟨%s0', %s1', -, H0, H1, H2, H3, H4, H5, H6, H7, H8, S0, S1⟩
  isplitl [S0 S1 HP]
  · isplitl [S0 S1]
    · isplitl [S0]
      · iexists s0'; iexact S0
      iexists s1'; iexact S1
    iexact HP
  isplitl [Ho]; · iexact Ho
  isplitl [H0]; · iexact H0
  isplitl [H1]; · iexact H1
  isplitl [H2]; · iexact H2
  isplitl [H3]; · iexact H3
  isplitl [H4]; · iexists d4; iexact H4
  isplitl [H5]; · iexists d5; iexact H5
  isplitl [H6]; · iexists d6; iexact H6
  isplitl [H7]; · iexists d7; iexact H7
  iexists _; iexact H8

/-- The library's body obligation, the output forgotten. -/
theorem fobligation (c : Dev nD) : BodyObligationLoose (fdats m 0 c) (defs₀ (F := F)) Variants.none () Set.univ fgt := fun t => by
  rw [bigSep_W0, bigSep_W0, defs₀_row]
  exact triple_restated (fsound m c t) rfl .rfl fun _ => .rfl

set_option backward.isDefEq.respectTransparency.types false in
set_option maxHeartbeats 800000 in
/-- The run: every array may hold what the data allow, and every counter ends at zero. -/
theorem frun : θ_run defs (onTc (τ := τ) (main (F := F))) (s₀ m ρ)
    (fun r => RDat.FramePost cfg0 (fun c => (fdats m 0 c).toRForget fgt) (V m) r ∧ r.2.sem = fun _ => 0) :=
  Pipeline.θ_run_frame_forget (Q' := _) cfgs (fdats m) (0 : Fin 1) launch0 defs₀ Variants.none fgt m ρ main
    (hbody := fobligation m) (hshare := fun c => (fdats m 0 c).share_full fun _ => rfl)
    (howed := fun _ _ => rfl) (V := V m) (hmain := hmain m Variants.none) (hA := fA m) (hΦ := fun _ _ => rfl)

/-- THE FRAME: the arguments end unchanged and every semaphore counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) ∧ r.2.sem = fun _ => 0) :=
  (θ_run defs _ _).mono (fun r h => ⟨fun c =>
    have hin (w : Fin cfg0.W) (hw : (cfg0.win w).isOut = false) := (RDat.FramePost.arr_in h.1 c w hw).trans (fA m c w)
    ⟨(hin 0 rfl).trans (V_main_arg0 m c), (hin 1 rfl).trans (V_main_arg1 m c), (hin 2 rfl).trans (V_main_arg2 m c), (hin 3 rfl).trans (V_main_arg3 m c),
      (hin 4 rfl).trans (V_main_arg4 m c), ((h.1 c).2 main_arg5 (Pipeline.mem_restRefs_of main_arg5 (by decide) (by decide))).trans (V_main_arg5 m c),
      (hin 6 rfl).trans (V_main_arg6 m c), ((h.1 c).2 main_arg7 (Pipeline.mem_restRefs_of main_arg7 (by decide) (by decide))).trans (V_main_arg7 m c)⟩, h.2⟩) (frun m ρ)

end Cert.Kernel.Hand

end
-- ==== Proof.Body.lean ====
/-
  The product call's body, run once at a grid point.

  The nine windows and the two scratch buffers (the decoded weights of the current column tile) are held whole. At
  the first row block of a column tile the body decodes the weights into the scratch buffers; at any other it leaves
  them. Either way it stores the tile of `y` that it computes from what the scratch buffers then hold.
-/
module

public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Frame
public import Idealize.ShloMosaic.Lib.Pipeline.Value
public import Idealize.ShloMosaic.Lib.VecWindow
public import Idealize.ShloMosaic.Lib.Tactic

@[expose] public section

set_option maxRecDepth 16384

noncomputable section

namespace Cert.KernelIdeal.Hand

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

/-- The row of a scale array that the point at coordinates `i` reads. -/
abbrev rowR (i : grid0.Coords) : Rect S16x512 := Rect.unit (s := S16x512) (k0_off1 i) S1x512.size (k0_off1_inb i)

/-- The upper and the lower half of the second scratch buffer. -/
abbrev rTop : Rect S2520x512 := Rect.unit (s := S2520x512) ![0, 0] S1260x512.size inb_S2520x512_S1260x512_0_0
abbrev rBot : Rect S2520x512 := Rect.unit (s := S2520x512) ![1260, 0] S1260x512.size inb_S2520x512_S1260x512_1260_0

/-- The decoded 4-bit weights of a column tile, the low nibbles above the high ones. -/
def lW (w : Vec F S1260x512 .i8) : Vec F S2520x512 .bf16 :=
  View.canon [(⟨rBot, k0_pay4 w⟩ : View.Piece (Elt F) S2520x512 .bf16), ⟨rTop, k0_pay3 w⟩]

/-- The tile of `y` from the blocks and the scratch buffers. -/
def yB (i : grid0.Coords) (x2 : Vec F S512x360 .i8) (s11 : Vec F S360x512 .bf16) (x4 : Vec F S512x2520 .i8) (s12 : Vec F S2520x512 .bf16)
    (x3 x5 : Vec F S16x512 .f32) (x7 x9 : Vec F S1x512 .f32) : FVec F S512x512 .bf16 :=
  k0_pay5 x2 s11 x4 s12 (View.ld x3 (rowR i)) (View.ld x5 (rowR i)) x7 x9

/-- The guard of the decoding branch, as the program prints it. -/
abbrev guard (i : grid0.Coords) : BitVec 1 :=
  Scalar.cmpi .ne (Scalar.extui (Scalar.cmpi .eq (BitVec.ofNat 32 (i 1).val) 0#32) : BitVec 32) 0#32

/-- The stored tile, once each read is known. -/
theorem y_close (i : grid0.Coords) {x2 a2 : Vec F S512x360 .i8} {s11 a11 : Vec F S360x512 .bf16} {x4 a4 : Vec F S512x2520 .i8} {s12 a12 : Vec F S2520x512 .bf16}
    {x3 x5 : Vec F S16x512 .f32} {a3 a5 : Vec F S1x512 .f32} {x7 x9 a7 a9 : Vec F S1x512 .f32} (h2 : a2 = x2) (h11 : a11 = s11) (h4 : a4 = x4) (h12 : a12 = s12)
    (h3 : a3 = View.ld x3 (rowR i)) (h5 : a5 = View.ld x5 (rowR i)) (h7 : a7 = x7) (h9 : a9 = x9) :
    k0_pay5 a2 a11 a4 a12 a3 a5 a7 a9 = yB i x2 s11 x4 s12 x3 x5 x7 x9 := by
  subst h2 h11 h4 h12 h3 h5 h7 h9; rfl

/-- A full read, of contents that read as `x`. -/
theorem full_read {s : Shape} {e : EltTy} (M : Memref sig .tc .vmem s e) (f : M.view.ty.Contents (Elt F)) {x : s.Idx → Elt F e} (h : M.view.read (Elt F) f = x)
    {off : Fin s.rank → ℕ} (inb : ∀ a, off a + s.size a ≤ s.size a) :
    M.view.readAt (Elt F) (Rect.unit off s.size inb).toLoadRect f = x :=
  (View.readAt_full M.view f inb).trans h

/-- The second scratch buffer reads as the decoded weights after its two stores. -/
theorem lW_read (M : Memref sig .tc .vmem S2520x512 .bf16) (f : M.view.ty.Contents (Elt F)) {a x : Vec F S1260x512 .i8} (h : a = x) :
    M.view.read (Elt F) (M.view.writes (Elt F) f [⟨rBot, k0_pay4 a⟩, ⟨rTop, k0_pay3 a⟩]) = lW x := by
  subst h
  exact View.read_writes_eq_canon _ _ _ (View.cover_of_tiled _ S1260x512.size (by rfl))

set_option maxHeartbeats 1000000 in
/-- The body's triple at a point that does not decode. -/
theorem sound_lin_else (c : Dev nD) (E : Set ℕ) (i : grid0.Coords) (hg : ¬ guard i = 1#1)
    (arg2 : Memref sig .tc .vmem S512x360 .i8) (harg2 : arg2.IsWhole) (arg3 : Memref sig .tc .vmem S16x512 .f32) (harg3 : arg3.IsWhole) (arg4 : Memref sig .tc .vmem S512x2520 .i8) (harg4 : arg4.IsWhole) (arg5 : Memref sig .tc .vmem S16x512 .f32) (harg5 : arg5.IsWhole) (arg6 : Memref sig .tc .vmem S360x512 .i8) (harg6 : arg6.IsWhole) (arg7 : Memref sig .tc .vmem S1x512 .f32) (harg7 : arg7.IsWhole) (arg8 : Memref sig .tc .vmem S1260x512 .i8) (harg8 : arg8.IsWhole) (arg9 : Memref sig .tc .vmem S1x512 .f32) (harg9 : arg9.IsWhole) (arg10 : Memref sig .tc .vmem S512x512 .bf16) (harg10 : arg10.IsWhole) (arg11 : Memref sig .tc .vmem S360x512 .bf16) (harg11 : arg11.IsWhole) (arg12 : Memref sig .tc .vmem S2520x512 .bf16) (harg12 : arg12.IsWhole)
    (x2 : Vec F S512x360 .i8) (x3 : Vec F S16x512 .f32) (x4 : Vec F S512x2520 .i8) (x5 : Vec F S16x512 .f32) (x6 : Vec F S360x512 .i8) (x7 : Vec F S1x512 .f32) (x8 : Vec F S1260x512 .i8) (x9 : Vec F S1x512 .f32) (x10 : Vec F S512x512 .bf16) (s11 : Vec F S360x512 .bf16) (s12 : Vec F S2520x512 .bf16)
    (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10
        ∗ owns (c : Thread nD τ) arg11 fullShare s11 ∗ owns (c : Thread nD τ) arg12 fullShare s12
        ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9
            ∗ owns (c : Thread nD τ) arg10 fullShare (yB i x2 s11 x4 s12 x3 x5 x7 x9)
            ∗ owns (c : Thread nD τ) arg11 fullShare s11 ∗ owns (c : Thread nD τ) arg12 fullShare s12) -∗ K ⟨⟩))
      ⊢ wp frame (wpE (defs₀ (F := F)) Variants.none c none) E (cc0_mixed_linear i arg2 harg2 arg3 harg3 arg4 harg4 arg5 harg5 arg6 harg6 arg7 harg7 arg8 harg8 arg9 harg9 arg10 harg10 arg11 harg11 arg12 harg12) K := by
  simp only [cc0_mixed_linear_eq_skeleton]; unfold cc0_mixed_linear_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, -, H10⟩, ⟨%f11, %hf11, H11⟩, ⟨%f12, %hf12, H12⟩, Hk⟩
  sl_exec
  sl_step
  iapply Hk
  isplitl [H2]
  · iexists f2; isplitr; · ipureintro; exact hf2
    iexact H2
  isplitl [H3]
  · iexists f3; isplitr; · ipureintro; exact hf3
    iexact H3
  isplitl [H4]
  · iexists f4; isplitr; · ipureintro; exact hf4
    iexact H4
  isplitl [H5]
  · iexists f5; isplitr; · ipureintro; exact hf5
    iexact H5
  isplitl [H6]
  · iexists f6; isplitr; · ipureintro; exact hf6
    iexact H6
  isplitl [H7]
  · iexists f7; isplitr; · ipureintro; exact hf7
    iexact H7
  isplitl [H8]
  · iexists f8; isplitr; · ipureintro; exact hf8
    iexact H8
  isplitl [H9]
  · iexists f9; isplitr; · ipureintro; exact hf9
    iexact H9
  isplitl [H10]
  · iexists _; isplitr
    swap; · iexact H10
    ipureintro
    refine (View.read_writes_eq_canon _ _ _ (View.cover_of_tiled _ S512x512.size (by rfl))).trans ?_
    refine (View.canon_unit_zero (by funext a; fin_cases a <;> rfl) _ _).trans ?_
    exact y_close i (full_read arg2 f2 hf2 _) (full_read arg11 f11 hf11 _) (full_read arg4 f4 hf4 _) (full_read arg12 f12 hf12 _)
      (congrArg (fun x => View.ld x (rowR i)) hf3) (congrArg (fun x => View.ld x (rowR i)) hf5) (full_read arg7 f7 hf7 _) (full_read arg9 f9 hf9 _)
  isplitl [H11]
  · iexists f11; isplitr; · ipureintro; exact hf11
    iexact H11
  iexists f12; isplitr; · ipureintro; exact hf12
  iexact H12

set_option maxHeartbeats 1000000 in
/-- The body's triple at a point that decodes. -/
theorem sound_lin_then (c : Dev nD) (E : Set ℕ) (i : grid0.Coords) (hg : guard i = 1#1)
    (arg2 : Memref sig .tc .vmem S512x360 .i8) (harg2 : arg2.IsWhole) (arg3 : Memref sig .tc .vmem S16x512 .f32) (harg3 : arg3.IsWhole) (arg4 : Memref sig .tc .vmem S512x2520 .i8) (harg4 : arg4.IsWhole) (arg5 : Memref sig .tc .vmem S16x512 .f32) (harg5 : arg5.IsWhole) (arg6 : Memref sig .tc .vmem S360x512 .i8) (harg6 : arg6.IsWhole) (arg7 : Memref sig .tc .vmem S1x512 .f32) (harg7 : arg7.IsWhole) (arg8 : Memref sig .tc .vmem S1260x512 .i8) (harg8 : arg8.IsWhole) (arg9 : Memref sig .tc .vmem S1x512 .f32) (harg9 : arg9.IsWhole) (arg10 : Memref sig .tc .vmem S512x512 .bf16) (harg10 : arg10.IsWhole) (arg11 : Memref sig .tc .vmem S360x512 .bf16) (harg11 : arg11.IsWhole) (arg12 : Memref sig .tc .vmem S2520x512 .bf16) (harg12 : arg12.IsWhole)
    (x2 : Vec F S512x360 .i8) (x3 : Vec F S16x512 .f32) (x4 : Vec F S512x2520 .i8) (x5 : Vec F S16x512 .f32) (x6 : Vec F S360x512 .i8) (x7 : Vec F S1x512 .f32) (x8 : Vec F S1260x512 .i8) (x9 : Vec F S1x512 .f32) (x10 : Vec F S512x512 .bf16) (s11 : Vec F S360x512 .bf16) (s12 : Vec F S2520x512 .bf16)
    (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10
        ∗ owns (c : Thread nD τ) arg11 fullShare s11 ∗ owns (c : Thread nD τ) arg12 fullShare s12
        ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9
            ∗ owns (c : Thread nD τ) arg10 fullShare (yB i x2 (k0_pay1 x6) x4 (lW x8) x3 x5 x7 x9)
            ∗ owns (c : Thread nD τ) arg11 fullShare (k0_pay1 x6) ∗ owns (c : Thread nD τ) arg12 fullShare (lW x8)) -∗ K ⟨⟩))
      ⊢ wp frame (wpE (defs₀ (F := F)) Variants.none c none) E (cc0_mixed_linear i arg2 harg2 arg3 harg3 arg4 harg4 arg5 harg5 arg6 harg6 arg7 harg7 arg8 harg8 arg9 harg9 arg10 harg10 arg11 harg11 arg12 harg12) K := by
  simp only [cc0_mixed_linear_eq_skeleton]; unfold cc0_mixed_linear_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, -, H10⟩, ⟨%f11, %hf11, H11⟩, ⟨%f12, %hf12, H12⟩, Hk⟩
  sl_exec
  sl_step
  iapply Hk
  isplitl [H2]
  · iexists f2; isplitr; · ipureintro; exact hf2
    iexact H2
  isplitl [H3]
  · iexists f3; isplitr; · ipureintro; exact hf3
    iexact H3
  isplitl [H4]
  · iexists f4; isplitr; · ipureintro; exact hf4
    iexact H4
  isplitl [H5]
  · iexists f5; isplitr; · ipureintro; exact hf5
    iexact H5
  isplitl [H6]
  · iexists f6; isplitr; · ipureintro; exact hf6
    iexact H6
  isplitl [H7]
  · iexists f7; isplitr; · ipureintro; exact hf7
    iexact H7
  isplitl [H8]
  · iexists f8; isplitr; · ipureintro; exact hf8
    iexact H8
  isplitl [H9]
  · iexists f9; isplitr; · ipureintro; exact hf9
    iexact H9
  isplitl [H10]
  · iexists _; isplitr
    swap; · iexact H10
    ipureintro
    refine (View.read_writes_eq_canon _ _ _ (View.cover_of_tiled _ S512x512.size (by rfl))).trans ?_
    refine (View.canon_unit_zero (by funext a; fin_cases a <;> rfl) _ _).trans ?_
    exact y_close i (full_read arg2 f2 hf2 _) ((View.readCov_full arg11.view _ _ _ _).trans (congrArg k0_pay1 (full_read arg6 f6 hf6 _))) (full_read arg4 f4 hf4 _)
      ((View.readAt_full arg12.view _ _).trans (lW_read arg12 _ (full_read arg8 f8 hf8 _)))
      (congrArg (fun x => View.ld x (rowR i)) hf3) (congrArg (fun x => View.ld x (rowR i)) hf5) (full_read arg7 f7 hf7 _) (full_read arg9 f9 hf9 _)
  isplitl [H11]
  · iexists _; isplitr
    swap; · iexact H11
    ipureintro
    refine (View.read_writes_eq_canon _ _ _ (View.cover_of_tiled _ S360x512.size (by rfl))).trans ?_
    refine (View.canon_unit_zero (by funext a; fin_cases a <;> rfl) _ _).trans ?_
    exact congrArg k0_pay1 (full_read arg6 f6 hf6 _)
  iexists _; isplitr
  swap; · iexact H12
  ipureintro
  exact lW_read arg12 f12 (full_read arg8 f8 hf8 _)

end Cert.KernelIdeal.Hand

end
-- ==== Proof.Data.lean ====
/-
  The proof data of the product call: what each window's buffer holds at a grid point.

  The weight and weight-scale windows are clipped at the last column tile: their buffers hold the block on the columns
  inside the array, and words nothing names past them. The data take what the body leaves in the output window and
  what is known of the scratch buffers as parameters.
-/
module

public import proofs.«01_k».proof.Proof.Body
public import proofs.«01_k».proof.Proof.Gen.KernelIdeal.Frame

@[expose] public section

noncomputable section

namespace Cert.KernelIdeal.Hand

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A window's buffer at a point: the block on the part inside the array, `d` elsewhere. -/
abbrev held (c : Dev nD) (w : Fin cfg0.W) (t : Fin cfg0.N) (d : (cfg0.win w).block.Idx → Elt F (cfg0.win w).elt) :
    (cfg0.win w).block.Idx → Elt F (cfg0.win w).elt :=
  (cfg0.win w).fill (cfg0.grid.coords t) d (iblk m c w t)

/-- The words past the array's end in the proof data; nothing reads them. -/
abbrev zi : Elt F .i8 := (0#8 : BitVec 8)
abbrev zf : Elt F .f32 := Scalar.ofBits .f32 0#32

/-- What is known between points: for each device and position, an assertion. -/
abbrev Inv (F : FTy → Type) [FloatOps F] : Type := Dev nD → Fin (grid0.N + 1) → sProp (MT nD τ sig Unit (Elt F) ℕ (UR sig nD τ) ℕ)

/-- The proof data: the arrays as the region finds them, each input left as found, the output at `out`, the scratch
    buffers at `Φ`. -/
def dats (out : Dev nD → Fin cfg0.N → Vec F S512x512 .bf16) (Φ : Inv F) (_ : Fin 1) (c : Dev nD) :
    Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => held m c 4 t fun _ => zi
    | ⟨5, _⟩ => held m c 5 t fun _ => zf
    | ⟨6, _⟩ => held m c 6 t fun _ => zi
    | ⟨7, _⟩ => held m c 7 t fun _ => zf
    | ⟨8, _⟩ => out c t
  Φ t := Φ c t
  q _ := fullShare
  owed _ := 0

variable (out : Dev nD → Fin cfg0.N → Vec F S512x512 .bf16) (Φ : Inv F)

theorem A_eq (c : Dev nD) (w : Fin cfg0.W) : (dats m out Φ 0 c).A w = V m c (Pipeline.arrRef spec0 w) := by dsimp only [dats]
theorem after0 (c : Dev nD) (t : Fin cfg0.N) : (dats m out Φ 0 c).after 0 t = iblk m c 0 t := by dsimp only [dats]
theorem after1 (c : Dev nD) (t : Fin cfg0.N) : (dats m out Φ 0 c).after 1 t = iblk m c 1 t := by dsimp only [dats]
theorem after2 (c : Dev nD) (t : Fin cfg0.N) : (dats m out Φ 0 c).after 2 t = iblk m c 2 t := by dsimp only [dats]
theorem after3 (c : Dev nD) (t : Fin cfg0.N) : (dats m out Φ 0 c).after 3 t = iblk m c 3 t := by dsimp only [dats]
theorem after4 (c : Dev nD) (t : Fin cfg0.N) : (dats m out Φ 0 c).after 4 t = held m c 4 t fun _ => zi := by dsimp only [dats]
theorem after5 (c : Dev nD) (t : Fin cfg0.N) : (dats m out Φ 0 c).after 5 t = held m c 5 t fun _ => zf := by dsimp only [dats]
theorem after6 (c : Dev nD) (t : Fin cfg0.N) : (dats m out Φ 0 c).after 6 t = held m c 6 t fun _ => zi := by dsimp only [dats]
theorem after7 (c : Dev nD) (t : Fin cfg0.N) : (dats m out Φ 0 c).after 7 t = held m c 7 t fun _ => zf := by dsimp only [dats]
theorem after8 (c : Dev nD) (t : Fin cfg0.N) : (dats m out Φ 0 c).after 8 t = out c t := by dsimp only [dats]

/-- The row windows hold their blocks at every point. -/
theorem before0 (c : Dev nD) (t : Fin cfg0.N) (d) : (dats m out Φ 0 c).before 0 t d = iblk m c 0 t :=
  before0_0_of m (dats m out Φ 0 c) (A_eq m out Φ c 0) (after0 m out Φ c) t d
theorem before1 (c : Dev nD) (t : Fin cfg0.N) (d) : (dats m out Φ 0 c).before 1 t d = iblk m c 1 t :=
  before0_1_of m (dats m out Φ 0 c) (A_eq m out Φ c 1) (after1 m out Φ c) t d
theorem before2 (c : Dev nD) (t : Fin cfg0.N) (d) : (dats m out Φ 0 c).before 2 t d = iblk m c 2 t :=
  before0_2_of m (dats m out Φ 0 c) (A_eq m out Φ c 2) (after2 m out Φ c) t d
theorem before3 (c : Dev nD) (t : Fin cfg0.N) (d) : (dats m out Φ 0 c).before 3 t d = iblk m c 3 t :=
  before0_3_of m (dats m out Φ 0 c) (A_eq m out Φ c 3) (after3 m out Φ c) t d

/-- The cuts of the column windows depend on the block's index only. -/
theorem clip4 (t t' : Fin cfg0.N) (h : (cfg0.win 4).index t = (cfg0.win 4).index t') :
    (cfg0.win 4).clip (cfg0.grid.coords t) = (cfg0.win 4).clip (cfg0.grid.coords t') :=
  funext fun a => congrArg (fun n => Pipeline.Clip.of n (S360x512.size a) (S360x8640.size a)) (congrFun h a)
theorem clip5 (t t' : Fin cfg0.N) (h : (cfg0.win 5).index t = (cfg0.win 5).index t') :
    (cfg0.win 5).clip (cfg0.grid.coords t) = (cfg0.win 5).clip (cfg0.grid.coords t') :=
  funext fun a => congrArg (fun n => Pipeline.Clip.of n (S1x512.size a) (S1x8640.size a)) (congrFun h a)
theorem clip6 (t t' : Fin cfg0.N) (h : (cfg0.win 6).index t = (cfg0.win 6).index t') :
    (cfg0.win 6).clip (cfg0.grid.coords t) = (cfg0.win 6).clip (cfg0.grid.coords t') :=
  funext fun a => congrArg (fun n => Pipeline.Clip.of n (S1260x512.size a) (S1260x8640.size a)) (congrFun h a)
theorem clip7 (t t' : Fin cfg0.N) (h : (cfg0.win 7).index t = (cfg0.win 7).index t') :
    (cfg0.win 7).clip (cfg0.grid.coords t) = (cfg0.win 7).clip (cfg0.grid.coords t') :=
  funext fun a => congrArg (fun n => Pipeline.Clip.of n (S1x512.size a) (S1x8640.size a)) (congrFun h a)

/-- The block of window `w` that the data name is the block of the array as the region finds it. -/
theorem blockOf_eq (c : Dev nD) (w : Fin cfg0.W) (t : Fin cfg0.N) : (dats m out Φ 0 c).blockOf w t = iblk m c w t := by
  unfold Dat.blockOf iblk; rw [A_eq]; try rfl

/-- A column window whose body leaves its block holds that block, fetched there or not, and anything past the array. -/
theorem before_held (c : Dev nD) (w : Fin cfg0.W) (hw : (cfg0.win w).isOut = false) (z : (cfg0.win w).block.Idx → Elt F (cfg0.win w).elt)
    (hclip : ∀ t t' : Fin cfg0.N, (cfg0.win w).index t = (cfg0.win w).index t' →
      (cfg0.win w).clip (cfg0.grid.coords t) = (cfg0.win w).clip (cfg0.grid.coords t'))
    (hafter : ∀ t, (dats m out Φ 0 c).after w t = held m c w t z) (t : Fin cfg0.N) (d) :
    (dats m out Φ 0 c).before w t d = held m c w t d :=
  ((dats m out Φ 0 c).before_in_eq_fetched w hw (fun _ => rfl) hclip
    (fun t => by rw [hafter, blockOf_eq]; exact (cfg0.win w).cut_fill _ _ _) t d).trans (by unfold Dat.fetched; rw [blockOf_eq])

theorem before4 (c : Dev nD) (t : Fin cfg0.N) (d) : (dats m out Φ 0 c).before 4 t d = held m c 4 t d :=
  before_held m out Φ c 4 rfl _ clip4 (after4 m out Φ c) t d
theorem before5 (c : Dev nD) (t : Fin cfg0.N) (d) : (dats m out Φ 0 c).before 5 t d = held m c 5 t d :=
  before_held m out Φ c 5 rfl _ clip5 (after5 m out Φ c) t d
theorem before6 (c : Dev nD) (t : Fin cfg0.N) (d) : (dats m out Φ 0 c).before 6 t d = held m c 6 t d :=
  before_held m out Φ c 6 rfl _ clip6 (after6 m out Φ c) t d
theorem before7 (c : Dev nD) (t : Fin cfg0.N) (d) : (dats m out Φ 0 c).before 7 t d = held m c 7 t d :=
  before_held m out Φ c 7 rfl _ clip7 (after7 m out Φ c) t d

/-- What a column window's obligation asks after the body, from its buffer still as found. -/
theorem left_held (c : Dev nD) (w : Fin cfg0.W) (z : (cfg0.win w).block.Idx → Elt F (cfg0.win w).elt)
    (hafter : ∀ t, (dats m out Φ 0 c).after w t = held m c w t z) (t : Fin cfg0.N) (d) :
    (cfg0.win w).fill (cfg0.grid.coords t) d ((cfg0.win w).cut (cfg0.grid.coords t) ((dats m out Φ 0 c).after w t)) = held m c w t d := by
  rw [hafter]; exact congrArg _ ((cfg0.win w).cut_fill _ _ _)

/-- The body table's row at point `t`'s slots is the body at that point. -/
theorem defs₀_row (t : Fin cfg0.N) :
    defs₀ (F := F) .tc cfg0.body (cfg0.bodyArgs t (cfg0.slots t)) = bodyAt0 t := by
  unfold defs₀; rw [Defs.onTc_tc]

/-- The body at any point, the scratch buffers at any contents: the windows keep what they hold and the tile is
    stored from the scratch buffers' contents after the point, which are the decoded weights if the point decodes. -/
theorem sound_at (c : Dev nD) (t : Fin cfg0.N) (x2 : Vec F S512x360 .i8) (x3 : Vec F S16x512 .f32) (x4 : Vec F S512x2520 .i8) (x5 : Vec F S16x512 .f32) (x6 : Vec F S360x512 .i8) (x7 : Vec F S1x512 .f32) (x8 : Vec F S1260x512 .i8) (x9 : Vec F S1x512 .f32) (x10 : Vec F S512x512 .bf16) (s11 : Vec F S360x512 .bf16) (s12 : Vec F S2520x512 .bf16)
    (K : PUnit → sProp 𝕄) :
    iprop(owns (c : Thread nD τ) (st0_0 t) fullShare x2 ∗ owns (c : Thread nD τ) (st0_1 t) fullShare x3 ∗ owns (c : Thread nD τ) (st0_2 t) fullShare x4 ∗ owns (c : Thread nD τ) (st0_3 t) fullShare x5 ∗ owns (c : Thread nD τ) (st0_4 t) fullShare x6 ∗ owns (c : Thread nD τ) (st0_5 t) fullShare x7 ∗ owns (c : Thread nD τ) (st0_6 t) fullShare x8 ∗ owns (c : Thread nD τ) (st0_7 t) fullShare x9 ∗ owns (c : Thread nD τ) (st0_8 t) fullShare x10
        ∗ owns (c : Thread nD τ) (Memref.whole cc0_scratch0) fullShare s11 ∗ owns (c : Thread nD τ) (Memref.whole cc0_scratch1) fullShare s12
        ∗ (iprop(∃ s11' s12', ⌜(guard (grid0.coords t) = 1#1 ∧ s11' = k0_pay1 x6 ∧ s12' = lW x8) ∨ (¬ guard (grid0.coords t) = 1#1 ∧ s11' = s11 ∧ s12' = s12)⌝
            ∗ owns (c : Thread nD τ) (st0_0 t) fullShare x2 ∗ owns (c : Thread nD τ) (st0_1 t) fullShare x3 ∗ owns (c : Thread nD τ) (st0_2 t) fullShare x4 ∗ owns (c : Thread nD τ) (st0_3 t) fullShare x5 ∗ owns (c : Thread nD τ) (st0_4 t) fullShare x6 ∗ owns (c : Thread nD τ) (st0_5 t) fullShare x7 ∗ owns (c : Thread nD τ) (st0_6 t) fullShare x8 ∗ owns (c : Thread nD τ) (st0_7 t) fullShare x9
            ∗ owns (c : Thread nD τ) (st0_8 t) fullShare (yB (grid0.coords t) x2 s11' x4 s12' x3 x5 x7 x9)
            ∗ owns (c : Thread nD τ) (Memref.whole cc0_scratch0) fullShare s11' ∗ owns (c : Thread nD τ) (Memref.whole cc0_scratch1) fullShare s12') -∗ K ⟨⟩))
      ⊢ wp frame (wpE (defs₀ (F := F)) Variants.none c none) Set.univ (bodyAt0 t) K := by
  unfold bodyAt0
  by_cases hg : guard (grid0.coords t) = 1#1
  · iintro ⟨H0, H1, H2, H3, H4, H5, H6, H7, H8, S0, S1, Hk⟩
    iapply (sound_lin_then c Set.univ (grid0.coords t) hg _ _ _ _ _ _ _ _ _ _ _ _ _ _ _ _ _ _ _ _ _ _ x2 x3 x4 x5 x6 x7 x8 x9 x10 s11 s12 K)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [S0]; · iexact S0
    isplitl [S1]; · iexact S1
    iintro H
    iapply Hk
    iexists (k0_pay1 x6); iexists (lW x8)
    isplitr; · ipureintro; exact .inl ⟨hg, rfl, rfl⟩
    iexact H
  · iintro ⟨H0, H1, H2, H3, H4, H5, H6, H7, H8, S0, S1, Hk⟩
    iapply (sound_lin_else c Set.univ (grid0.coords t) hg _ _ _ _ _ _ _ _ _ _ _ _ _ _ _ _ _ _ _ _ _ _ x2 x3 x4 x5 x6 x7 x8 x9 x10 s11 s12 K)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [S0]; · iexact S0
    isplitl [S1]; · iexact S1
    iintro H
    iapply Hk
    iexists s11; iexists s12
    isplitr; · ipureintro; exact .inr ⟨hg, rfl, rfl⟩
    iexact H

end Cert.KernelIdeal.Hand

end
-- ==== Proof.Forget.lean ====
/-
  The frame of the product call: it terminates, its arguments end as they were, every semaphore counter ends at zero.
  Nothing is said of the output, and between points nothing is known of the scratch buffers.
-/
module

public import proofs.«01_k».proof.Proof.Data

@[expose] public section

noncomputable section

namespace Cert.KernelIdeal.Hand

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The data of the frame: the output at a word nothing reads, the scratch buffers at anything. -/
abbrev fdats := dats m (fun _ _ _ => Scalar.ofBits .bf16 0#16) (fun c _ => Pipeline.ΦA spec0 c)

/-- Its arrays are those the region finds. -/
theorem fA (c : Dev nD) (w : Fin cfg0.W) : (fdats m 0 c).A w = V m c (Pipeline.arrRef spec0 w) := A_eq m _ _ c w

/-- The forgotten window: the output. -/
abbrev fgt (w : Fin cfg0.W) : Bool := match w with | ⟨8, _⟩ => true | _ => false

/-- What the body is called with at a point, -/
def fPre (c : Dev nD) (t : Fin cfg0.N) : sProp 𝕄 :=
  iprop((fdats m 0 c).Φ t.castSucc ∗ (fdats m 0 c).owesAt () t.castSucc
    ∗ (∃ d, owns (c : Thread nD τ) (st0_0 t) fullShare ((fdats m 0 c).before 0 t d))
    ∗ (∃ d, owns (c : Thread nD τ) (st0_1 t) fullShare ((fdats m 0 c).before 1 t d))
    ∗ (∃ d, owns (c : Thread nD τ) (st0_2 t) fullShare ((fdats m 0 c).before 2 t d))
    ∗ (∃ d, owns (c : Thread nD τ) (st0_3 t) fullShare ((fdats m 0 c).before 3 t d))
    ∗ (∃ d, owns (c : Thread nD τ) (st0_4 t) fullShare ((fdats m 0 c).before 4 t d))
    ∗ (∃ d, owns (c : Thread nD τ) (st0_5 t) fullShare ((fdats m 0 c).before 5 t d))
    ∗ (∃ d, owns (c : Thread nD τ) (st0_6 t) fullShare ((fdats m 0 c).before 6 t d))
    ∗ (∃ d, owns (c : Thread nD τ) (st0_7 t) fullShare ((fdats m 0 c).before 7 t d))
    ∗ (∃ X, owns (c : Thread nD τ) (st0_8 t) fullShare X))

/-- and what it returns: the clipped windows are stated on the part inside the array. -/
def fPost (c : Dev nD) (t : Fin cfg0.N) : sProp 𝕄 :=
  iprop((fdats m 0 c).Φ t.succ ∗ (fdats m 0 c).owesAt () t.succ
    ∗ owns (c : Thread nD τ) (st0_0 t) fullShare ((fdats m 0 c).after 0 t)
    ∗ owns (c : Thread nD τ) (st0_1 t) fullShare ((fdats m 0 c).after 1 t)
    ∗ owns (c : Thread nD τ) (st0_2 t) fullShare ((fdats m 0 c).after 2 t)
    ∗ owns (c : Thread nD τ) (st0_3 t) fullShare ((fdats m 0 c).after 3 t)
    ∗ (∃ d, owns (c : Thread nD τ) (st0_4 t) fullShare ((cfg0.win 4).fill (cfg0.grid.coords t) d ((cfg0.win 4).cut (cfg0.grid.coords t) ((fdats m 0 c).after 4 t))))
    ∗ (∃ d, owns (c : Thread nD τ) (st0_5 t) fullShare ((cfg0.win 5).fill (cfg0.grid.coords t) d ((cfg0.win 5).cut (cfg0.grid.coords t) ((fdats m 0 c).after 5 t))))
    ∗ (∃ d, owns (c : Thread nD τ) (st0_6 t) fullShare ((cfg0.win 6).fill (cfg0.grid.coords t) d ((cfg0.win 6).cut (cfg0.grid.coords t) ((fdats m 0 c).after 6 t))))
    ∗ (∃ d, owns (c : Thread nD τ) (st0_7 t) fullShare ((cfg0.win 7).fill (cfg0.grid.coords t) d ((cfg0.win 7).cut (cfg0.grid.coords t) ((fdats m 0 c).after 7 t))))
    ∗ (∃ X, owns (c : Thread nD τ) (st0_8 t) fullShare X))

/-- The body takes the one to the other at every point. -/
theorem fsound (c : Dev nD) (t : Fin cfg0.N) :
    fPre m c t ⊢ wp frame (wpE (defs₀ (F := F)) Variants.none c none) Set.univ (bodyAt0 t) (fun _ => fPost m c t) := by
  unfold fPre fPost
  simp only [before0, before1, before2, before3, before4, before5, before6, before7]
  rw [show (fdats m 0 c).Φ t.castSucc = Pipeline.ΦA spec0 c from rfl,
    show (fdats m 0 c).Φ t.succ = Pipeline.ΦA spec0 c from rfl,
    show (fdats m 0 c).owesAt () t.succ = (fdats m 0 c).owesAt () t.castSucc from rfl, after0, after1, after2, after3]
  simp only [left_held m _ _ c 4 _ (after4 m _ _ c), left_held m _ _ c 5 _ (after5 m _ _ c), left_held m _ _ c 6 _ (after6 m _ _ c), left_held m _ _ c 7 _ (after7 m _ _ c)]
  unfold Pipeline.ΦA
  rw [scopedRest0_eq]
  simp only [← owns_whole]
  iintro ⟨⟨⟨⟨%s0, S0⟩, ⟨%s1, S1⟩⟩, HP⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_at c t (iblk m c 0 t) (iblk m c 1 t) (iblk m c 2 t) (iblk m c 3 t) (held m c 4 t d4) (held m c 5 t d5) (held m c 6 t d6) (held m c 7 t d7) d8 s0 s1 _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [S0]; · iexact S0
  isplitl [S1]; · iexact S1
  iintro ⟨%s0', %s1', -, H0, H1, H2, H3, H4, H5, H6, H7, H8, S0, S1⟩
  isplitl [S0 S1 HP]
  · isplitl [S0 S1]
    · isplitl [S0]
      · iexists s0'; iexact S0
      iexists s1'; iexact S1
    iexact HP
  isplitl [Ho]; · iexact Ho
  isplitl [H0]; · iexact H0
  isplitl [H1]; · iexact H1
  isplitl [H2]; · iexact H2
  isplitl [H3]; · iexact H3
  isplitl [H4]; · iexists d4; iexact H4
  isplitl [H5]; · iexists d5; iexact H5
  isplitl [H6]; · iexists d6; iexact H6
  isplitl [H7]; · iexists d7; iexact H7
  iexists _; iexact H8

/-- The library's body obligation, the output forgotten. -/
theorem fobligation (c : Dev nD) : BodyObligationLoose (fdats m 0 c) (defs₀ (F := F)) Variants.none () Set.univ fgt := fun t => by
  rw [bigSep_W0, bigSep_W0, defs₀_row]
  exact triple_restated (fsound m c t) rfl .rfl fun _ => .rfl

set_option backward.isDefEq.respectTransparency.types false in
set_option maxHeartbeats 800000 in
/-- The run: every array may hold what the data allow, and every counter ends at zero. -/
theorem frun : θ_run defs (onTc (τ := τ) (main (F := F))) (s₀ m ρ)
    (fun r => RDat.FramePost cfg0 (fun c => (fdats m 0 c).toRForget fgt) (V m) r ∧ r.2.sem = fun _ => 0) :=
  Pipeline.θ_run_frame_forget (Q' := _) cfgs (fdats m) (0 : Fin 1) launch0 defs₀ Variants.none fgt m ρ main
    (hbody := fobligation m) (hshare := fun c => (fdats m 0 c).share_full fun _ => rfl)
    (howed := fun _ _ => rfl) (V := V m) (hmain := hmain m Variants.none) (hA := fA m) (hΦ := fun _ _ => rfl)

/-- THE FRAME: the arguments end unchanged and every semaphore counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) ∧ r.2.sem = fun _ => 0) :=
  (θ_run defs _ _).mono (fun r h => ⟨fun c =>
    have hin (w : Fin cfg0.W) (hw : (cfg0.win w).isOut = false) := (RDat.FramePost.arr_in h.1 c w hw).trans (fA m c w)
    ⟨(hin 0 rfl).trans (V_main_arg0 m c), (hin 1 rfl).trans (V_main_arg1 m c), (hin 2 rfl).trans (V_main_arg2 m c), (hin 3 rfl).trans (V_main_arg3 m c),
      (hin 4 rfl).trans (V_main_arg4 m c), ((h.1 c).2 main_arg5 (Pipeline.mem_restRefs_of main_arg5 (by decide) (by decide))).trans (V_main_arg5 m c),
      (hin 6 rfl).trans (V_main_arg6 m c), ((h.1 c).2 main_arg7 (Pipeline.mem_restRefs_of main_arg7 (by decide) (by decide))).trans (V_main_arg7 m c)⟩, h.2⟩) (frun m ρ)

end Cert.KernelIdeal.Hand

end
-- ==== Proof.Spec.lean ====
/-
  One entry of `y` as plain mathematics: what both programs are shown to compute.
-/
module

public import Idealize.ShloMosaic.PureOps.Ideal.Laws
public import Idealize.ShloMosaic.Lib.MatmulPlain
public import Idealize.ShloMosaic.Lib.Pipeline.Value

@[expose] public section

noncomputable section

namespace Cert.Spec

/-- The real number a code of any width stands for. -/
def num {w : Nat} (b : BitVec w) : EReal := ((b.toInt : ℝ) : EReal)

/-- The low and the high nibble of a packed byte, read as signed 4-bit numbers. -/
def lo (b : BitVec 8) : EReal := num (((b.setWidth 32) <<< 28).sshiftRight 28)
def hi (b : BitVec 8) : EReal := num (((b.setWidth 32) <<< 24).sshiftRight 28)

/-- An entry of `y`: the 8-bit product and the 4-bit product, each scaled by its row's and its column's scale. The first
    1260 low codes meet the low nibbles of the packed weights, the last 1260 the high nibbles. -/
def entry (hc wh : Fin 360 → BitVec 8) (lc : Fin 2520 → BitVec 8) (wl : Fin 1260 → BitVec 8) (hs ws ls vs : EReal) : EReal :=
  hs * ws * (∑ k, num (hc k) * num (wh k))
    + ls * vs * ((∑ k : Fin 1260, num (lc ⟨k, by omega⟩) * lo (wl k)) + ∑ k : Fin 1260, num (lc ⟨1260 + k, by omega⟩) * hi (wl k))

/-- A sum over the 2520 low codes, by halves. -/
theorem sum_halves (f : Fin 2520 → EReal) :
    ∑ k, f k = (∑ k : Fin 1260, f ⟨k, by omega⟩) + ∑ k : Fin 1260, f ⟨1260 + k, by omega⟩ :=
  Fin.sum_univ_add (a := 1260) (b := 1260) f

/-- An entry is determined by its codes and scales. -/
theorem entry_congr {hc hc' wh wh' : Fin 360 → BitVec 8} {lc lc' : Fin 2520 → BitVec 8} {wl wl' : Fin 1260 → BitVec 8} {hs hs' ws ws' ls ls' vs vs' : EReal}
    (e1 : ∀ k, hc k = hc' k) (e2 : ∀ k, wh k = wh' k) (e3 : ∀ k, lc k = lc' k) (e4 : ∀ k, wl k = wl' k) (e5 : hs = hs') (e6 : ws = ws') (e7 : ls = ls') (e8 : vs = vs') :
    entry hc wh lc wl hs ws ls vs = entry hc' wh' lc' wl' hs' ws' ls' vs' := by
  obtain rfl := funext e1; obtain rfl := funext e2; obtain rfl := funext e3; obtain rfl := funext e4
  subst e5 e6 e7 e8; rfl

end Cert.Spec

end
-- ==== Proof.Tile.lean ====
/-
  The tile of `y` the body stores, entry by entry, over the extended reals.
-/
module

public import proofs.«01_k».proof.Proof.Body
public import proofs.«01_k».proof.Proof.Spec

@[expose] public section

set_option maxRecDepth 16384

noncomputable section

namespace Cert.KernelIdeal.Hand

open Cert.KernelIdeal Cert.KernelIdeal.Gen Cert.Spec
open Idealize.ShloMosaic Idealize.ShloMosaic.ValueIdx
open Idealize.ShloMosaic.Pipeline (Window)

/-- The decoded 8-bit weights, entry by entry. -/
theorem pay1_apply (x : Vec Ideal S360x512 .i8) (j : S360x512.Idx) : k0_pay1 x j = num (x j) := by
  unfold k0_pay1
  exact shapeCast_apply _ _ _ _ rfl

/-- The low nibbles, and -/
theorem pay3_apply (x : Vec Ideal S1260x512 .i8) (j : S1260x512.Idx) : k0_pay3 x j = lo (x j) := by
  unfold k0_pay3
  exact (shapeCast_apply _ _ _ _ rfl).trans rfl

/-- the high nibbles. -/
theorem pay4_apply (x : Vec Ideal S1260x512 .i8) (j : S1260x512.Idx) : k0_pay4 x j = hi (x j) := by
  unfold k0_pay4
  exact (shapeCast_apply _ _ _ _ rfl).trans rfl

/-- A row below 1260 is in the upper half, not the lower. -/
theorem top_not_bot (j : S2520x512.Idx) (hj : (j 0).val < 1260) : j ∉ rBot.set := by
  intro h
  rw [Rect.mem_set_unit] at h
  have h0 := (h 0).1
  rw [show (![1260, 0] : Fin S2520x512.rank → Nat) 0 = 1260 from Matrix.cons_val_zero ..] at h0
  exact absurd h0 (Nat.not_le_of_lt hj)

/-- It is the row of the upper half with its own number. -/
theorem top_emb (k : Fin 2520) (k' : Fin 1260) (hk : k.val = k'.val) (n : Fin 512) : (ix2 k n : S2520x512.Idx) = rTop.emb (ix2 k' n) := by
  funext a; apply Fin.ext; rw [Rect.emb_apply]
  match a with
  | ⟨0, _⟩ => show k.val = 0 + 1 * k'.val; omega
  | ⟨1, _⟩ => show n.val = 0 + 1 * n.val; omega

/-- A row of the decoded 4-bit weights below 1260 is a row of low nibbles, -/
theorem lW_top (x : Vec Ideal S1260x512 .i8) (k : Fin 1260) (n : Fin 512) :
    lW x (ix2 ⟨k, by omega⟩ n) = lo (x (ix2 k n)) := by
  unfold lW
  refine (View.canon_cons_of_not_mem (⟨rBot, k0_pay4 x⟩ : View.Piece (Elt Ideal) S2520x512 .bf16) [⟨rTop, k0_pay3 x⟩] (top_not_bot _ k.isLt)).trans ?_
  rw [top_emb ⟨k, by omega⟩ k rfl n]
  rw [View.canon_cons_emb]
  exact pay3_apply x _

/-- and any other a row of high nibbles. -/
theorem lW_bot (x : Vec Ideal S1260x512 .i8) (k : Fin 1260) (n : Fin 512) :
    lW x (ix2 ⟨1260 + k, by omega⟩ n) = hi (x (ix2 k n)) := by
  have he : (ix2 (⟨1260 + k, by omega⟩ : Fin 2520) n : S2520x512.Idx) = rBot.emb (ix2 k n) := by
    funext a; apply Fin.ext; rw [Rect.emb_apply]
    match a with
    | ⟨0, _⟩ => show 1260 + k.val = 1260 + 1 * k.val; omega
    | ⟨1, _⟩ => show n.val = 0 + 1 * n.val; omega
  unfold lW
  rw [he, View.canon_cons_emb]
  exact pay4_apply x _

/-- The word of zero is the number zero. -/
theorem zero_word : (FloatOps.ofBits .f32 0x00000000#32 : Ideal .f32) = 0 := by
  simp

/-- The row scale of a tile, spread over the columns, -/
theorem row_scale (x : Vec Ideal S1x512 .f32) (r n : Fin 512) :
    broadcastTo S512x512 (transpose S512x1 [1, 0] x transposes_S1x512_p1_0_S512x1) broadcasts_S512x1_S512x512 (ix2 r n) = x (ix2 0 r) := by
  rw [broadcastTo_apply _ _ _ (ix2 r 0) (fun a => by match a with | ⟨0, _⟩ => rfl | ⟨1, _⟩ => rfl)]
  exact transpose_apply _ _ _ _ _ (fun b => by match b with | ⟨0, _⟩ => rfl | ⟨1, _⟩ => rfl)

/-- and its column scale, spread over the rows. -/
theorem col_scale (x : Vec Ideal S1x512 .f32) (r n : Fin 512) :
    broadcastTo S512x512 (shapeCast S1x512 x shapeCasts_S1x512_S1x512) broadcasts_S1x512_S512x512 (ix2 r n) = x (ix2 0 n) := by
  rw [broadcastTo_apply _ _ _ (ix2 0 n) (fun a => by match a with | ⟨0, _⟩ => rfl | ⟨1, _⟩ => rfl)]
  exact shapeCast_apply _ _ _ _ rfl

/-- AN ENTRY OF THE TILE: the plain mathematics of its row of codes, its column of weights and their scales. -/
theorem yB_apply (i : grid0.Coords) (x2 : Vec Ideal S512x360 .i8) (x4 : Vec Ideal S512x2520 .i8) (x3 x5 : Vec Ideal S16x512 .f32)
    (x6 : Vec Ideal S360x512 .i8) (x7 : Vec Ideal S1x512 .f32) (x8 : Vec Ideal S1260x512 .i8) (x9 : Vec Ideal S1x512 .f32) (r n : Fin 512) :
    yB i x2 (k0_pay1 x6) x4 (lW x8) x3 x5 x7 x9 (ix2 r n)
      = entry (fun k => x2 (ix2 r k)) (fun k => x6 (ix2 k n)) (fun k => x4 (ix2 r k)) (fun k => x8 (ix2 k n))
          (View.ld x3 (rowR i) (ix2 0 r)) (x7 (ix2 0 n)) (View.ld x5 (rowR i) (ix2 0 r)) (x9 (ix2 0 n)) := by
  have h1 : ∀ v : FVec Ideal S512x360 .bf16, matmul (F := Ideal) dot_S512x360_S360x512_S512x512_1_0_0_1_n_n none v (k0_pay1 x6) (constant S512x512 .f32 0x00000000#32) (ix2 r n)
      = ∑ k, v (ix2 r k) * num (x6 (ix2 k n)) := fun v => by
    refine (Ideal.matmul_plain_apply (M := 512) (K := 360) (N := 512) none v (k0_pay1 x6) (constant S512x512 .f32 0x00000000#32) r n).trans ?_
    rw [show constant (F := Ideal) S512x512 .f32 0x00000000#32 (ix2 r n) = 0 from zero_word, zero_add]
    exact Finset.sum_congr rfl fun k _ => by rw [pay1_apply]
  have h2 : ∀ v : FVec Ideal S512x2520 .bf16, matmul (F := Ideal) dot_S512x2520_S2520x512_S512x512_1_0_0_1_n_n none v (lW x8) (constant S512x512 .f32 0x00000000#32) (ix2 r n)
      = (∑ k : Fin 1260, v (ix2 r ⟨k, by omega⟩) * lo (x8 (ix2 k n))) + ∑ k : Fin 1260, v (ix2 r ⟨1260 + k, by omega⟩) * hi (x8 (ix2 k n)) := fun v => by
    refine (Ideal.matmul_plain_apply (M := 512) (K := 2520) (N := 512) none v (lW x8) (constant S512x512 .f32 0x00000000#32) r n).trans ?_
    rw [show constant (F := Ideal) S512x512 .f32 0x00000000#32 (ix2 r n) = 0 from zero_word, zero_add, sum_halves]
    exact congrArg₂ _ (Finset.sum_congr rfl fun k _ => by rw [lW_top]) (Finset.sum_congr rfl fun k _ => by rw [lW_bot])
  unfold yB k0_pay5 entry
  refine congrArg₂ (· + ·) (congrArg₂ (· * ·) (congrArg₂ (· * ·) (row_scale _ r n) (col_scale _ r n)) (h1 _))
    (congrArg₂ (· * ·) (congrArg₂ (· * ·) (row_scale _ r n) (col_scale _ r n)) (h2 _))

end Cert.KernelIdeal.Hand

end
-- ==== Proof.Tracked.lean ====
/-
  The product call's run over the extended reals, the scratch buffers tracked.

  Between points the scratch buffers hold the decoded weights of the column tile of the point just run. So every point
  stores a tile computed from its own column tile's weights, and the run leaves in the output array the matrix of
  which every stored tile is a block.
-/
module

public import proofs.«01_k».proof.Proof.Data

@[expose] public section

noncomputable section

namespace Cert.KernelIdeal.Hand

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The scratch buffers hold the decoded weights of point `t`'s column tile. -/
def Good (c : Dev nD) (t : Fin cfg0.N) (s0 : Vec F S360x512 .bf16) (s1 : Vec F S2520x512 .bf16) : Prop :=
  ∃ d4 d6, s0 = k0_pay1 (held m c 4 t d4) ∧ s1 = lW (held m c 6 t d6)

/-- What is known between points: the scratch buffers hold the decoded weights of the last point's column tile. -/
def tΦ : Inv F := fun c n =>
  iprop(∃ s0 s1, ⌜∀ t : Fin cfg0.N, t.val + 1 = n.val → Good m c t s0 s1⌝
    ∗ owns (c : Thread nD τ) (Memref.whole cc0_scratch0) fullShare s0 ∗ owns (c : Thread nD τ) (Memref.whole cc0_scratch1) fullShare s1
    ∗ (∃ r, prngReg c r))

/-- The decoding branch runs at the first point of each column tile. -/
theorem guard_fetch : ∀ t : Fin cfg0.N, ¬ guard (cfg0.grid.coords t) = 1#1 → ¬ t.val % 16 = 0 :=
  (by decide +kernel : ∀ t : Fin grid0.N, ¬ guard (grid0.coords t) = 1#1 → ¬ t.val % 16 = 0)

/-- At any other point the weights' blocks are the last point's. -/
theorem held_pred (c : Dev nD) (w : Fin cfg0.W) (hin : (cfg0.win w).isOut = false)
    (hclip : ∀ t t' : Fin cfg0.N, (cfg0.win w).index t = (cfg0.win w).index t' →
      (cfg0.win w).clip (cfg0.grid.coords t) = (cfg0.win w).clip (cfg0.grid.coords t'))
    (t t' : Fin cfg0.N) (ht : t'.val + 1 = t.val) (hf : (cfg0.win w).fetch t = false) (d) :
    held m c w t d = held m c w t' d := by
  have hi := ((cfg0.win w).index_eq_of_fetch hin t hf).2
  have he : (⟨t.val - 1, by omega⟩ : Fin cfg0.N) = t' := Fin.ext (by show t.val - 1 = t'.val; omega)
  have hc : (cfg0.win w).index t = (cfg0.win w).index t' := by rw [hi]; exact congrArg _ he
  have h := (dats m (fun _ _ _ => Scalar.ofBits .bf16 0#16) (tΦ m) 0 c).fetched_congr w hc (hclip t t' hc) d
  unfold Dat.fetched at h
  rw [blockOf_eq, blockOf_eq] at h
  exact h

/-- So the scratch buffers stay right over a point that does not decode, -/
theorem good_step (c : Dev nD) (t t' : Fin cfg0.N) (ht : t'.val + 1 = t.val) (hg : ¬ guard (cfg0.grid.coords t) = 1#1) (s0 s1)
    (h : Good m c t' s0 s1) : Good m c t s0 s1 := by
  have hn := guard_fetch t hg
  have f4 : (cfg0.win 4).fetch t = false := by
    rw [← Bool.not_eq_true]; exact fun hf => hn ((fetch0_4 t).mp hf)
  have f6 : (cfg0.win 6).fetch t = false := by
    rw [← Bool.not_eq_true]; exact fun hf => hn ((fetch0_6 t).mp hf)
  obtain ⟨d4, d6, h4, h6⟩ := h
  refine ⟨d4, d6, ?_, ?_⟩
  · rw [h4, held_pred m c 4 rfl clip4 t t' ht f4]
  · rw [h6, held_pred m c 6 rfl clip6 t t' ht f6]

/-- and are right after any point. -/
theorem good_after (c : Dev nD) (t : Fin cfg0.N) (d4 d6) (s0 s1 s0' s1')
    (h : ∀ t' : Fin cfg0.N, t'.val + 1 = t.val → Good m c t' s0 s1)
    (hs : (guard (cfg0.grid.coords t) = 1#1 ∧ s0' = k0_pay1 (held m c 4 t d4) ∧ s1' = lW (held m c 6 t d6))
      ∨ (¬ guard (cfg0.grid.coords t) = 1#1 ∧ s0' = s0 ∧ s1' = s1)) : Good m c t s0' s1' := by
  rcases hs with ⟨_, rfl, rfl⟩ | ⟨hg, rfl, rfl⟩
  · exact ⟨d4, d6, rfl, rfl⟩
  · have hn := guard_fetch t hg
    have h0 : t.val ≠ 0 := fun h0 => hn (by rw [h0])
    exact good_step m c t ⟨t.val - 1, by omega⟩ (by show t.val - 1 + 1 = t.val; omega) hg _ _ (h _ (by show t.val - 1 + 1 = t.val; omega))

/-- A matrix of which every tile the body stores is, on the columns inside the array, a block. -/
def Tiled (G : (c : Dev nD) → Buf (Elt F) ((c : Thread nD τ).loc main_v2)) : Prop :=
  ∀ (c : Dev nD) (t : Fin cfg0.N) d4 d5 d6 d7,
    (cfg0.win 8).cut (cfg0.grid.coords t) (yB (grid0.coords t) (iblk m c 0 t) (k0_pay1 (held m c 4 t d4)) (iblk m c 2 t) (lW (held m c 6 t d6))
      (iblk m c 1 t) (iblk m c 3 t) (held m c 5 t d5) (held m c 7 t d7)) = ((cfg0.win 8).blk t).view.read (Elt F) (G c)

variable (G : (c : Dev nD) → Buf (Elt F) ((c : Thread nD τ).loc main_v2))

/-- The output window after a point: the block of the matrix, zeros past the array. -/
def tout (c : Dev nD) (t : Fin cfg0.N) : Vec F S512x512 .bf16 :=
  (cfg0.win 8).fill (cfg0.grid.coords t) (fun _ => Scalar.ofBits .bf16 0#16) (((cfg0.win 8).blk t).view.read (Elt F) (G c))

/-- The data of the run. -/
abbrev tdats := dats m (tout G) (tΦ m)

/-- Its arrays are those the region finds. -/
theorem tA (c : Dev nD) (w : Fin cfg0.W) : (tdats m G 0 c).A w = V m c (Pipeline.arrRef spec0 w) := A_eq m _ _ c w

/-- What the body is called with at a point, -/
def tPre (c : Dev nD) (t : Fin cfg0.N) : sProp 𝕄 :=
  iprop((tdats m G 0 c).Φ t.castSucc ∗ (tdats m G 0 c).owesAt () t.castSucc
    ∗ (∃ d, owns (c : Thread nD τ) (st0_0 t) fullShare ((tdats m G 0 c).before 0 t d))
    ∗ (∃ d, owns (c : Thread nD τ) (st0_1 t) fullShare ((tdats m G 0 c).before 1 t d))
    ∗ (∃ d, owns (c : Thread nD τ) (st0_2 t) fullShare ((tdats m G 0 c).before 2 t d))
    ∗ (∃ d, owns (c : Thread nD τ) (st0_3 t) fullShare ((tdats m G 0 c).before 3 t d))
    ∗ (∃ d, owns (c : Thread nD τ) (st0_4 t) fullShare ((tdats m G 0 c).before 4 t d))
    ∗ (∃ d, owns (c : Thread nD τ) (st0_5 t) fullShare ((tdats m G 0 c).before 5 t d))
    ∗ (∃ d, owns (c : Thread nD τ) (st0_6 t) fullShare ((tdats m G 0 c).before 6 t d))
    ∗ (∃ d, owns (c : Thread nD τ) (st0_7 t) fullShare ((tdats m G 0 c).before 7 t d))
    ∗ (∃ d, owns (c : Thread nD τ) (st0_8 t) fullShare ((tdats m G 0 c).before 8 t d)))

/-- and what it returns: the clipped windows are stated on the part inside the array. -/
def tPost (c : Dev nD) (t : Fin cfg0.N) : sProp 𝕄 :=
  iprop((tdats m G 0 c).Φ t.succ ∗ (tdats m G 0 c).owesAt () t.succ
    ∗ owns (c : Thread nD τ) (st0_0 t) fullShare ((tdats m G 0 c).after 0 t)
    ∗ owns (c : Thread nD τ) (st0_1 t) fullShare ((tdats m G 0 c).after 1 t)
    ∗ owns (c : Thread nD τ) (st0_2 t) fullShare ((tdats m G 0 c).after 2 t)
    ∗ owns (c : Thread nD τ) (st0_3 t) fullShare ((tdats m G 0 c).after 3 t)
    ∗ (∃ d, owns (c : Thread nD τ) (st0_4 t) fullShare ((cfg0.win 4).fill (cfg0.grid.coords t) d ((cfg0.win 4).cut (cfg0.grid.coords t) ((tdats m G 0 c).after 4 t))))
    ∗ (∃ d, owns (c : Thread nD τ) (st0_5 t) fullShare ((cfg0.win 5).fill (cfg0.grid.coords t) d ((cfg0.win 5).cut (cfg0.grid.coords t) ((tdats m G 0 c).after 5 t))))
    ∗ (∃ d, owns (c : Thread nD τ) (st0_6 t) fullShare ((cfg0.win 6).fill (cfg0.grid.coords t) d ((cfg0.win 6).cut (cfg0.grid.coords t) ((tdats m G 0 c).after 6 t))))
    ∗ (∃ d, owns (c : Thread nD τ) (st0_7 t) fullShare ((cfg0.win 7).fill (cfg0.grid.coords t) d ((cfg0.win 7).cut (cfg0.grid.coords t) ((tdats m G 0 c).after 7 t))))
    ∗ (∃ d, owns (c : Thread nD τ) (st0_8 t) fullShare ((cfg0.win 8).fill (cfg0.grid.coords t) d ((cfg0.win 8).cut (cfg0.grid.coords t) ((tdats m G 0 c).after 8 t)))))

variable (hG : Tiled m G)

include hG in
/-- The tile stored from right scratch buffers is what the data name, on the columns inside the array. -/
theorem left_out (c : Dev nD) (t : Fin cfg0.N) (d5 d7) (s0 s1) (h : Good m c t s0 s1) :
    yB (grid0.coords t) (iblk m c 0 t) s0 (iblk m c 2 t) s1 (iblk m c 1 t) (iblk m c 3 t) (held m c 5 t d5) (held m c 7 t d7)
      = (cfg0.win 8).fill (cfg0.grid.coords t)
          (yB (grid0.coords t) (iblk m c 0 t) s0 (iblk m c 2 t) s1 (iblk m c 1 t) (iblk m c 3 t) (held m c 5 t d5) (held m c 7 t d7))
          ((cfg0.win 8).cut (cfg0.grid.coords t) ((tdats m G 0 c).after 8 t)) := by
  obtain ⟨d4, d6, rfl, rfl⟩ := h
  rw [after8]
  refine ((cfg0.win 8).fill_congr_cut (cfg0.grid.coords t) ?_).symm
  exact (hG c t d4 d5 d6 d7).trans ((cfg0.win 8).cut_fill _ _ _).symm

include hG in
/-- The body takes the one to the other at every point. -/
theorem tsound (c : Dev nD) (t : Fin cfg0.N) :
    tPre m G c t ⊢ wp frame (wpE (defs₀ (F := F)) Variants.none c none) Set.univ (bodyAt0 t) (fun _ => tPost m G c t) := by
  unfold tPre tPost
  simp only [before0, before1, before2, before3, before4, before5, before6, before7]
  rw [show (tdats m G 0 c).Φ t.castSucc = tΦ m c t.castSucc from rfl,
    show (tdats m G 0 c).Φ t.succ = tΦ m c t.succ from rfl,
    show (tdats m G 0 c).owesAt () t.succ = (tdats m G 0 c).owesAt () t.castSucc from rfl, after0, after1, after2, after3]
  simp only [left_held m _ _ c 4 _ (after4 m _ _ c), left_held m _ _ c 5 _ (after5 m _ _ c), left_held m _ _ c 6 _ (after6 m _ _ c), left_held m _ _ c 7 _ (after7 m _ _ c)]
  unfold tΦ
  iintro ⟨⟨%s0, %s1, %hs, S0, S1, HP⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_at c t (iblk m c 0 t) (iblk m c 1 t) (iblk m c 2 t) (iblk m c 3 t) (held m c 4 t d4) (held m c 5 t d5) (held m c 6 t d6) (held m c 7 t d7) _ s0 s1 _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [S0]; · iexact S0
  isplitl [S1]; · iexact S1
  iintro ⟨%s0', %s1', %hs', H0, H1, H2, H3, H4, H5, H6, H7, H8, S0, S1⟩
  have hgood : Good m c t s0' s1' := good_after m c t d4 d6 s0 s1 s0' s1' (fun t' ht' => hs t' ht') hs'
  rw [left_out m G hG c t d5 d7 s0' s1' hgood]
  isplitl [S0 S1 HP]
  · iexists s0'; iexists s1'
    isplitr; · ipureintro; exact fun t' ht' => (Fin.ext (by simpa using ht') : t' = t) ▸ hgood
    isplitl [S0]; · iexact S0
    isplitl [S1]; · iexact S1
    iexact HP
  isplitl [Ho]; · iexact Ho
  isplitl [H0]; · iexact H0
  isplitl [H1]; · iexact H1
  isplitl [H2]; · iexact H2
  isplitl [H3]; · iexact H3
  isplitl [H4]; · iexists d4; iexact H4
  isplitl [H5]; · iexists d5; iexact H5
  isplitl [H6]; · iexists d6; iexact H6
  isplitl [H7]; · iexists d7; iexact H7
  iexists _; iexact H8

include hG in
/-- The library's body obligation. -/
theorem tobligation (c : Dev nD) : BodyObligationLoose (tdats m G 0 c) (defs₀ (F := F)) Variants.none () Set.univ := fun t => by
  rw [bigSep_W0, bigSep_W0, defs₀_row]
  exact triple_restated (tsound m G hG c t) rfl .rfl fun _ => .rfl

/-- Before the first point nothing is known of the scratch buffers, -/
theorem tin (c : Dev nD) : (Pipeline.ΦA spec0 c : sProp 𝕄) ⊢ (tdats m G 0 c).Φ 0 := by
  rw [show (tdats m G 0 c).Φ 0 = tΦ m c 0 from rfl]
  unfold tΦ Pipeline.ΦA
  rw [scopedRest0_eq]
  simp only [← owns_whole]
  iintro ⟨⟨⟨%s0, S0⟩, ⟨%s1, S1⟩⟩, HP⟩
  iexists s0; iexists s1
  isplitr; · ipureintro; exact fun t ht => absurd ht (Nat.succ_ne_zero _)
  isplitl [S0]; · iexact S0
  isplitl [S1]; · iexact S1
  iexact HP

/-- and after the last what is known is dropped. -/
theorem tend (c : Dev nD) : (tdats m G 0 c).Φ (Fin.last cfg0.N) ⊢ (Pipeline.ΦA spec0 c : sProp 𝕄) := by
  rw [show (tdats m G 0 c).Φ (Fin.last cfg0.N) = tΦ m c (Fin.last grid0.N) from rfl]
  unfold tΦ Pipeline.ΦA
  rw [scopedRest0_eq]
  simp only [← owns_whole]
  iintro ⟨%s0, %s1, -, S0, S1, HP⟩
  isplitl [S0 S1]
  · isplitl [S0]
    · iexists s0; iexact S0
    iexists s1; iexact S1
  iexact HP

include hG in
set_option backward.isDefEq.respectTransparency.types false in
set_option maxHeartbeats 800000 in
/-- The run: every array ends at what the data name, and every counter at zero. -/
theorem trun : θ_run defs (onTc (τ := τ) (main (F := F))) (s₀ m ρ)
    (fun r => Pipeline.FramePost cfgs (tdats m G) 0 (V m) r ∧ r.2.sem = fun _ => 0) :=
  Pipeline.θ_run_frame_track (Q' := _) cfgs (tdats m G) (0 : Fin 1) launch0 defs₀ Variants.none m ρ main
    (hbody := tobligation m G hG) (hshare := fun c => (tdats m G 0 c).share_full fun _ => rfl)
    (howed := fun _ _ => rfl) (V := V m) (hmain := hmain m Variants.none) (hA := tA m G) (hin := tin m G) (hout := tend m G)

end Cert.KernelIdeal.Hand

end
-- ==== Proof.Blocks.lean ====
/-
  The blocks a grid point's windows hold, as entries of their arrays, and the matrix whose blocks the points store.
-/
module

public import proofs.«01_k».proof.Proof.Tile
public import proofs.«01_k».proof.Proof.Tracked

@[expose] public section

set_option maxRecDepth 16384

noncomputable section

namespace Cert.KernelIdeal.Hand

open Cert.KernelIdeal Cert.KernelIdeal.Gen Cert.Spec
open Idealize.ShloMosaic Idealize.ShloMosaic.TcCoe Idealize.ShloMosaic.ValueIdx
open Idealize.ShloMosaic.Pipeline (Window Dat)

variable (m : (ℓ : Loc nD τ sig) → Buf (Elt Ideal) ℓ)

/-- The column tiles' blocks start at multiples of 512, -/
theorem idx4 : ∀ t : Fin cfg0.N, win0_4.index t 0 = 0 ∧ win0_4.index t 1 = t.val / 16 :=
  (by decide +kernel : ∀ t : Fin grid0.N, win0_4.index t 0 = 0 ∧ win0_4.index t 1 = t.val / 16)
theorem idx5 : ∀ t : Fin cfg0.N, win0_5.index t 0 = 0 ∧ win0_5.index t 1 = t.val / 16 :=
  (by decide +kernel : ∀ t : Fin grid0.N, win0_5.index t 0 = 0 ∧ win0_5.index t 1 = t.val / 16)
theorem idx6 : ∀ t : Fin cfg0.N, win0_6.index t 0 = 0 ∧ win0_6.index t 1 = t.val / 16 :=
  (by decide +kernel : ∀ t : Fin grid0.N, win0_6.index t 0 = 0 ∧ win0_6.index t 1 = t.val / 16)
theorem idx7 : ∀ t : Fin cfg0.N, win0_7.index t 0 = 0 ∧ win0_7.index t 1 = t.val / 16 :=
  (by decide +kernel : ∀ t : Fin grid0.N, win0_7.index t 0 = 0 ∧ win0_7.index t 1 = t.val / 16)
theorem idx8 : ∀ t : Fin cfg0.N, win0_8.index t 0 = t.val % 16 ∧ win0_8.index t 1 = t.val / 16 :=
  (by decide +kernel : ∀ t : Fin grid0.N, win0_8.index t 0 = t.val % 16 ∧ win0_8.index t 1 = t.val / 16)

/-- and end with the array. -/
theorem ext4 : ∀ t : Fin cfg0.N, win0_4.xsize (grid0.coords t) 0 = 360 ∧ win0_4.xsize (grid0.coords t) 1 = min 512 (8640 - t.val / 16 * 512) :=
  (by decide +kernel : ∀ t : Fin grid0.N, win0_4.xsize (grid0.coords t) 0 = 360 ∧ win0_4.xsize (grid0.coords t) 1 = min 512 (8640 - t.val / 16 * 512))
theorem ext5 : ∀ t : Fin cfg0.N, win0_5.xsize (grid0.coords t) 0 = 1 ∧ win0_5.xsize (grid0.coords t) 1 = min 512 (8640 - t.val / 16 * 512) :=
  (by decide +kernel : ∀ t : Fin grid0.N, win0_5.xsize (grid0.coords t) 0 = 1 ∧ win0_5.xsize (grid0.coords t) 1 = min 512 (8640 - t.val / 16 * 512))
theorem ext6 : ∀ t : Fin cfg0.N, win0_6.xsize (grid0.coords t) 0 = 1260 ∧ win0_6.xsize (grid0.coords t) 1 = min 512 (8640 - t.val / 16 * 512) :=
  (by decide +kernel : ∀ t : Fin grid0.N, win0_6.xsize (grid0.coords t) 0 = 1260 ∧ win0_6.xsize (grid0.coords t) 1 = min 512 (8640 - t.val / 16 * 512))
theorem ext7 : ∀ t : Fin cfg0.N, win0_7.xsize (grid0.coords t) 0 = 1 ∧ win0_7.xsize (grid0.coords t) 1 = min 512 (8640 - t.val / 16 * 512) :=
  (by decide +kernel : ∀ t : Fin grid0.N, win0_7.xsize (grid0.coords t) 0 = 1 ∧ win0_7.xsize (grid0.coords t) 1 = min 512 (8640 - t.val / 16 * 512))
theorem ext8 : ∀ t : Fin cfg0.N, win0_8.xsize (grid0.coords t) 0 = 512 ∧ win0_8.xsize (grid0.coords t) 1 = min 512 (8640 - t.val / 16 * 512) :=
  (by decide +kernel : ∀ t : Fin grid0.N, win0_8.xsize (grid0.coords t) 0 = 512 ∧ win0_8.xsize (grid0.coords t) 1 = min 512 (8640 - t.val / 16 * 512))

/-- The row windows' blocks are row blocks or the whole array. -/
theorem idx0 : ∀ t : Fin cfg0.N, win0_0.index t 0 = t.val % 16 ∧ win0_0.index t 1 = 0 :=
  (by decide +kernel : ∀ t : Fin grid0.N, win0_0.index t 0 = t.val % 16 ∧ win0_0.index t 1 = 0)
theorem idx1 : ∀ t : Fin cfg0.N, win0_1.index t 0 = 0 ∧ win0_1.index t 1 = 0 :=
  (by decide +kernel : ∀ t : Fin grid0.N, win0_1.index t 0 = 0 ∧ win0_1.index t 1 = 0)
theorem idx2 : ∀ t : Fin cfg0.N, win0_2.index t 0 = t.val % 16 ∧ win0_2.index t 1 = 0 :=
  (by decide +kernel : ∀ t : Fin grid0.N, win0_2.index t 0 = t.val % 16 ∧ win0_2.index t 1 = 0)
theorem idx3 : ∀ t : Fin cfg0.N, win0_3.index t 0 = 0 ∧ win0_3.index t 1 = 0 :=
  (by decide +kernel : ∀ t : Fin grid0.N, win0_3.index t 0 = 0 ∧ win0_3.index t 1 = 0)

/-- The row of the scale arrays a point reads is its row block's. -/
theorem off_row : ∀ t : Fin cfg0.N, k0_off1 (grid0.coords t) 0 = t.val % 16 ∧ k0_off1 (grid0.coords t) 1 = 0 :=
  (by decide +kernel : ∀ t : Fin grid0.N, k0_off1 (grid0.coords t) 0 = t.val % 16 ∧ k0_off1 (grid0.coords t) 1 = 0)

/-- The 8-bit codes' block. -/
theorem blk0 (c : Dev nD) (t : Fin cfg0.N) (r : Fin 512) (k : Fin 360) (R : Fin 8192) (hR : R.val = t.val % 16 * 512 + r.val) :
    iblk m c 0 t (ix2 r k) = V m c main_arg0 (ix2 R k) := by
  unfold iblk
  refine (View.read_apply _ _).trans ((cast_eq _ _).trans (congrArg (V m c main_arg0) (funext fun a => Fin.ext ?_)))
  refine (Window.rect_emb_val win0_0 t (ix2 r k) a).trans ?_
  match a with
  | ⟨0, _⟩ => show win0_0.index t 0 * 512 + r.val = R.val; rw [(idx0 t).1]; omega
  | ⟨1, _⟩ => show win0_0.index t 1 * 360 + k.val = k.val; rw [(idx0 t).2]; omega

/-- The 4-bit codes' block. -/
theorem blk2 (c : Dev nD) (t : Fin cfg0.N) (r : Fin 512) (k : Fin 2520) (R : Fin 8192) (hR : R.val = t.val % 16 * 512 + r.val) :
    iblk m c 2 t (ix2 r k) = V m c main_arg2 (ix2 R k) := by
  unfold iblk
  refine (View.read_apply _ _).trans ((cast_eq _ _).trans (congrArg (V m c main_arg2) (funext fun a => Fin.ext ?_)))
  refine (Window.rect_emb_val win0_2 t (ix2 r k) a).trans ?_
  match a with
  | ⟨0, _⟩ => show win0_2.index t 0 * 512 + r.val = R.val; rw [(idx2 t).1]; omega
  | ⟨1, _⟩ => show win0_2.index t 1 * 2520 + k.val = k.val; rw [(idx2 t).2]; omega

/-- The row scales, the window whole. -/
theorem blk1 (c : Dev nD) (t : Fin cfg0.N) (y : S16x512.Idx) : iblk m c 1 t y = V m c main_arg1 y := by
  unfold iblk
  refine (View.read_apply _ _).trans ((cast_eq _ _).trans (congrArg (V m c main_arg1) (funext fun a => Fin.ext ?_)))
  refine (Window.rect_emb_val win0_1 t y a).trans ?_
  match a with
  | ⟨0, _⟩ => show win0_1.index t 0 * 16 + (y 0).val = (y 0).val; rw [(idx1 t).1]; omega
  | ⟨1, _⟩ => show win0_1.index t 1 * 512 + (y 1).val = (y 1).val; rw [(idx1 t).2]; omega
theorem blk3 (c : Dev nD) (t : Fin cfg0.N) (y : S16x512.Idx) : iblk m c 3 t y = V m c main_arg3 y := by
  unfold iblk
  refine (View.read_apply _ _).trans ((cast_eq _ _).trans (congrArg (V m c main_arg3) (funext fun a => Fin.ext ?_)))
  refine (Window.rect_emb_val win0_3 t y a).trans ?_
  match a with
  | ⟨0, _⟩ => show win0_3.index t 0 * 16 + (y 0).val = (y 0).val; rw [(idx3 t).1]; omega
  | ⟨1, _⟩ => show win0_3.index t 1 * 512 + (y 1).val = (y 1).val; rw [(idx3 t).2]; omega

/-- A row scale of the tile is its row block's. -/
theorem ld_row (t : Fin cfg0.N) (x : Vec Ideal S16x512 .f32) (r : Fin 512) :
    View.ld x (rowR (grid0.coords t)) (ix2 0 r) = x (ix2 ⟨t.val % 16, Nat.mod_lt _ (by decide)⟩ r) := by
  refine (show View.ld x (rowR (grid0.coords t)) (ix2 0 r) = x ((rowR (grid0.coords t)).emb (ix2 0 r)) from rfl).trans (congrArg x (funext fun a => Fin.ext ?_))
  rw [Rect.emb_apply]
  match a with
  | ⟨0, _⟩ => show k0_off1 (grid0.coords t) 0 + 1 * 0 = t.val % 16; rw [(off_row t).1]; omega
  | ⟨1, _⟩ => show k0_off1 (grid0.coords t) 1 + 1 * r.val = r.val; rw [(off_row t).2]; omega

/-- The column windows on the columns inside the array: the 8-bit weights, -/
theorem held4 (c : Dev nD) (t : Fin cfg0.N) (d) (k : Fin 360) (n : Fin 512) (N : Fin 8640) (hN : N.val = t.val / 16 * 512 + n.val) :
    held m c 4 t d (ix2 k n) = V m c main_arg4 (ix2 k N) := by
  have hm : win0_4.moved (grid0.coords t) (ix2 k n) = true := (win0_4.moved_iff _ _).mpr fun a => by
    match a with
    | ⟨0, _⟩ => show k.val < win0_4.xsize (grid0.coords t) 0; rw [(ext4 t).1]; exact k.isLt
    | ⟨1, _⟩ => show n.val < win0_4.xsize (grid0.coords t) 1; rw [(ext4 t).2]; omega
  refine (show held m c 4 t d (ix2 k n) = win0_4.fill (grid0.coords t) d (iblk m c 4 t) (ix2 k n) from rfl).trans ?_
  unfold Window.fill; rw [dif_pos hm]; unfold iblk
  refine (View.read_apply _ _).trans ((cast_eq _ _).trans (congrArg (V m c main_arg4) (funext fun a => Fin.ext ?_)))
  refine (Window.rect_emb_val win0_4 t _ a).trans ?_
  match a with
  | ⟨0, _⟩ => show win0_4.index t 0 * 360 + k.val = k.val; rw [(idx4 t).1]; omega
  | ⟨1, _⟩ => show win0_4.index t 1 * 512 + n.val = N.val; rw [(idx4 t).2]; omega

/-- their scales, -/
theorem held5 (c : Dev nD) (t : Fin cfg0.N) (d) (n : Fin 512) (N : Fin 8640) (hN : N.val = t.val / 16 * 512 + n.val) :
    held m c 5 t d (ix2 0 n) = V m c main_v0 (ix2 0 N) := by
  have hm : win0_5.moved (grid0.coords t) (ix2 (0 : Fin 1) n) = true := (win0_5.moved_iff _ _).mpr fun a => by
    match a with
    | ⟨0, _⟩ => show 0 < win0_5.xsize (grid0.coords t) 0; rw [(ext5 t).1]; omega
    | ⟨1, _⟩ => show n.val < win0_5.xsize (grid0.coords t) 1; rw [(ext5 t).2]; omega
  refine (show held m c 5 t d (ix2 0 n) = win0_5.fill (grid0.coords t) d (iblk m c 5 t) (ix2 0 n) from rfl).trans ?_
  unfold Window.fill; rw [dif_pos hm]; unfold iblk
  refine (View.read_apply _ _).trans ((cast_eq _ _).trans (congrArg (V m c main_v0) (funext fun a => Fin.ext ?_)))
  refine (Window.rect_emb_val win0_5 t _ a).trans ?_
  match a with
  | ⟨0, _⟩ => show win0_5.index t 0 * 1 + 0 = 0; rw [(idx5 t).1]
  | ⟨1, _⟩ => show win0_5.index t 1 * 512 + n.val = N.val; rw [(idx5 t).2]; omega

/-- the packed 4-bit weights -/
theorem held6 (c : Dev nD) (t : Fin cfg0.N) (d) (k : Fin 1260) (n : Fin 512) (N : Fin 8640) (hN : N.val = t.val / 16 * 512 + n.val) :
    held m c 6 t d (ix2 k n) = V m c main_arg6 (ix2 k N) := by
  have hm : win0_6.moved (grid0.coords t) (ix2 k n) = true := (win0_6.moved_iff _ _).mpr fun a => by
    match a with
    | ⟨0, _⟩ => show k.val < win0_6.xsize (grid0.coords t) 0; rw [(ext6 t).1]; exact k.isLt
    | ⟨1, _⟩ => show n.val < win0_6.xsize (grid0.coords t) 1; rw [(ext6 t).2]; omega
  refine (show held m c 6 t d (ix2 k n) = win0_6.fill (grid0.coords t) d (iblk m c 6 t) (ix2 k n) from rfl).trans ?_
  unfold Window.fill; rw [dif_pos hm]; unfold iblk
  refine (View.read_apply _ _).trans ((cast_eq _ _).trans (congrArg (V m c main_arg6) (funext fun a => Fin.ext ?_)))
  refine (Window.rect_emb_val win0_6 t _ a).trans ?_
  match a with
  | ⟨0, _⟩ => show win0_6.index t 0 * 1260 + k.val = k.val; rw [(idx6 t).1]; omega
  | ⟨1, _⟩ => show win0_6.index t 1 * 512 + n.val = N.val; rw [(idx6 t).2]; omega

/-- and their scales. -/
theorem held7 (c : Dev nD) (t : Fin cfg0.N) (d) (n : Fin 512) (N : Fin 8640) (hN : N.val = t.val / 16 * 512 + n.val) :
    held m c 7 t d (ix2 0 n) = V m c main_v1 (ix2 0 N) := by
  have hm : win0_7.moved (grid0.coords t) (ix2 (0 : Fin 1) n) = true := (win0_7.moved_iff _ _).mpr fun a => by
    match a with
    | ⟨0, _⟩ => show 0 < win0_7.xsize (grid0.coords t) 0; rw [(ext7 t).1]; omega
    | ⟨1, _⟩ => show n.val < win0_7.xsize (grid0.coords t) 1; rw [(ext7 t).2]; omega
  refine (show held m c 7 t d (ix2 0 n) = win0_7.fill (grid0.coords t) d (iblk m c 7 t) (ix2 0 n) from rfl).trans ?_
  unfold Window.fill; rw [dif_pos hm]; unfold iblk
  refine (View.read_apply _ _).trans ((cast_eq _ _).trans (congrArg (V m c main_v1) (funext fun a => Fin.ext ?_)))
  refine (Window.rect_emb_val win0_7 t _ a).trans ?_
  match a with
  | ⟨0, _⟩ => show win0_7.index t 0 * 1 + 0 = 0; rw [(idx7 t).1]
  | ⟨1, _⟩ => show win0_7.index t 1 * 512 + n.val = N.val; rw [(idx7 t).2]; omega

/-- THE MATRIX: every entry the plain mathematics of its row and its column of the arrays the region finds. -/
def Y (c : Dev nD) : Buf (Elt Ideal) ((c : Thread nD τ).loc main_v2) := fun i : S8192x8640.Idx =>
  entry (fun k => V m c main_arg0 (ix2 (i 0) k)) (fun k => V m c main_arg4 (ix2 k (i 1)))
    (fun k => V m c main_arg2 (ix2 (i 0) k)) (fun k => V m c main_arg6 (ix2 k (i 1)))
    (V m c main_arg1 (ix2 ⟨(i 0).val / 512, by have := idx2_lt0 i; omega⟩ ⟨(i 0).val % 512, Nat.mod_lt _ (by decide)⟩)) (V m c main_v0 (ix2 0 (i 1)))
    (V m c main_arg3 (ix2 ⟨(i 0).val / 512, by have := idx2_lt0 i; omega⟩ ⟨(i 0).val % 512, Nat.mod_lt _ (by decide)⟩)) (V m c main_v1 (ix2 0 (i 1)))

/-- A row scale of the tile, as an entry of the scale array at the row's two coordinates. -/
theorem row_of (t : Fin cfg0.N) (x : Vec Ideal S16x512 .f32) (r : Fin 512) (R : Fin 8192) (hR : R.val = t.val % 16 * 512 + r.val) :
    View.ld x (rowR (grid0.coords t)) (ix2 0 r) = x (ix2 ⟨R.val / 512, by omega⟩ ⟨R.val % 512, Nat.mod_lt _ (by decide)⟩) :=
  (ld_row t x r).trans (congrArg x (congrArg₂ ix2 (Fin.ext (by show t.val % 16 = R.val / 512; omega)) (Fin.ext (by show r.val = R.val % 512; omega))))

/-- An entry of the tile at a column inside the array is the matrix's. -/
theorem tile_entry (c : Dev nD) (t : Fin cfg0.N) (d4 d5 d6 d7) (r n : Fin 512) (R : Fin 8192) (N : Fin 8640)
    (hR : R.val = t.val % 16 * 512 + r.val) (hN : N.val = t.val / 16 * 512 + n.val) :
    yB (grid0.coords t) (iblk m c 0 t) (k0_pay1 (held m c 4 t d4)) (iblk m c 2 t) (lW (held m c 6 t d6))
      (iblk m c 1 t) (iblk m c 3 t) (held m c 5 t d5) (held m c 7 t d7) (ix2 r n) = Y m c (ix2 R N) := by
  have b1 : iblk m c 1 t = V m c main_arg1 := funext (blk1 m c t)
  have b3 : iblk m c 3 t = V m c main_arg3 := funext (blk3 m c t)
  refine (yB_apply (grid0.coords t) (iblk m c 0 t) (iblk m c 2 t) (iblk m c 1 t) (iblk m c 3 t) (held m c 4 t d4) (held m c 5 t d5) (held m c 6 t d6) (held m c 7 t d7) r n).trans ?_
  rw [b1, b3]
  exact entry_congr (fun k => blk0 m c t r k R hR) (fun k => held4 m c t d4 k n N hN) (fun k => blk2 m c t r k R hR) (fun k => held6 m c t d6 k n N hN)
    (row_of t (V m c main_arg1) r R hR) (held5 m c t d5 n N hN) (row_of t (V m c main_arg3) r R hR) (held7 m c t d7 n N hN)

/-- Every tile the body stores is, on the columns inside the array, a block of it. -/
theorem tiled : Tiled m (Y m) := by
  intro c t d4 d5 d6 d7
  funext y
  have y0 : (y 0).val < 512 := by
    have h : (y 0).val < win0_8.xsize (grid0.coords t) 0 := (y 0).isLt
    rwa [(ext8 t).1] at h
  have y1 : (y 1).val < min 512 (8640 - t.val / 16 * 512) := by
    have h : (y 1).val < win0_8.xsize (grid0.coords t) 1 := (y 1).isLt
    rwa [(ext8 t).2] at h
  have hx : win0_8.xinj (grid0.coords t) y = ix2 (⟨(y 0).val, y0⟩ : Fin 512) (⟨(y 1).val, by omega⟩ : Fin 512) := by
    funext a; apply Fin.ext
    match a with
    | ⟨0, _⟩ => rfl
    | ⟨1, _⟩ => rfl
  have he : (win0_8.rect t).emb y = ix2 (⟨t.val % 16 * 512 + (y 0).val, by omega⟩ : Fin 8192) (⟨t.val / 16 * 512 + (y 1).val, by omega⟩ : Fin 8640) := by
    funext a; apply Fin.ext
    refine (Window.rect_emb_val win0_8 t _ a).trans ?_
    match a with
    | ⟨0, _⟩ => show win0_8.index t 0 * 512 + (y 0).val = t.val % 16 * 512 + (y 0).val; rw [(idx8 t).1]
    | ⟨1, _⟩ => show win0_8.index t 1 * 512 + (y 1).val = t.val / 16 * 512 + (y 1).val; rw [(idx8 t).2]
  show yB (grid0.coords t) (iblk m c 0 t) (k0_pay1 (held m c 4 t d4)) (iblk m c 2 t) (lW (held m c 6 t d6))
      (iblk m c 1 t) (iblk m c 3 t) (held m c 5 t d5) (held m c 7 t d7) (win0_8.xinj (grid0.coords t) y) = _
  refine (congrArg (yB (grid0.coords t) (iblk m c 0 t) (k0_pay1 (held m c 4 t d4)) (iblk m c 2 t) (lW (held m c 6 t d6))
      (iblk m c 1 t) (iblk m c 3 t) (held m c 5 t d5) (held m c 7 t d7)) hx).trans ?_
  refine (tile_entry m c t d4 d5 d6 d7 _ _ (⟨t.val % 16 * 512 + (y 0).val, by omega⟩ : Fin 8192) (⟨t.val / 16 * 512 + (y 1).val, by omega⟩ : Fin 8640) rfl rfl).trans (Eq.symm ?_)
  exact (View.read_apply _ _).trans ((cast_eq _ _).trans (congrArg (Y m c) he))

end Cert.KernelIdeal.Hand

end
-- ==== Proof.Value.lean ====
/-
  The product call's run over the extended reals: the output array ends as the matrix of plain entries.
-/
module

public import proofs.«01_k».proof.Proof.Blocks

@[expose] public section

set_option maxRecDepth 16384

noncomputable section

namespace Cert.KernelIdeal.Hand

open Cert.KernelIdeal Cert.KernelIdeal.Gen Cert.Spec
open Idealize.ShloMosaic Idealize.ShloMosaic.TcCoe Idealize.ShloMosaic.ValueIdx Idealize.SL.Sem
open Idealize.ShloMosaic.Pipeline (Window Dat)

variable (m : (ℓ : Loc nD τ sig) → Buf (Elt Ideal) ℓ) (ρ : Dev nD → PrngReg)

/-- Every entry of the output array lies in the block of one grid point. -/
theorem covered (i : S8192x8640.Idx) : ∃ t : Fin cfg0.N, (cfg0.win 8).flush t = true ∧ i ∈ ((cfg0.win 8).blk t).view.set := by
  have h0 : (i 0).val < 8192 := idx2_lt0 i
  have h1 : (i 1).val < 8640 := idx2_lt1 i
  have hN : cfg0.N = 272 := by decide +kernel
  have ht : (i 1).val / 512 * 16 + (i 0).val / 512 < cfg0.N := by rw [hN]; omega
  obtain ⟨t, hv⟩ : ∃ t : Fin cfg0.N, t.val = (i 1).val / 512 * 16 + (i 0).val / 512 := ⟨⟨_, ht⟩, rfl⟩
  refine ⟨t, (by decide +kernel : ∀ t : Fin grid0.N, win0_8.flush t = true) t, ?_⟩
  show i ∈ ((View.whole main_v2).slice (win0_8.rect t)).set
  rw [View.set_slice_whole, Rect.mem_set_unit]
  intro a
  match a with
  | ⟨0, _⟩ =>
    show win0_8.index t 0 * 512 ≤ (i 0).val ∧ (i 0).val < win0_8.index t 0 * 512 + win0_8.xsize (grid0.coords t) 0
    rw [(idx8 t).1, (ext8 t).1]; omega
  | ⟨1, _⟩ =>
    show win0_8.index t 1 * 512 ≤ (i 1).val ∧ (i 1).val < win0_8.index t 1 * 512 + win0_8.xsize (grid0.coords t) 1
    rw [(idx8 t).2, (ext8 t).2]; omega

/-- So the output array ends as the matrix. -/
theorem arr_eq (c : Dev nD) : (tdats m (Y m) 0 c).arrAt 8 cfg0.N = Y m c := by
  refine (tdats m (Y m) 0 c).arrAt_eq_of_cover 8 (Y m c) (fun t _ => ?_) covered
  show (cfg0.win 8).cut (cfg0.grid.coords t) ((tdats m (Y m) 0 c).after 8 t) = _
  rw [after8]
  exact (cfg0.win 8).cut_fill _ _ _

/-- THE RUN: the output array ends as the matrix, the arguments as they were. -/
theorem run_value : θ_run defs (onTc (τ := τ) (main (F := Ideal))) ⟨m, fun _ => 0, ρ⟩ (fun r => ∀ c : Dev nD,
      r.2.mem ((c.tc : Thread nD τ).loc main_v2) = Y m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c =>
    have hin (w : Fin cfg0.W) (hw : (cfg0.win w).isOut = false) :=
      ((h.1 c).1 w).trans (((tdats m (Y m) 0 c).arrAt_in w hw _).trans (tA m (Y m) c w))
    ⟨((h.1 c).1 8).trans (arr_eq m c), (hin 0 rfl).trans (V_main_arg0 m c), (hin 1 rfl).trans (V_main_arg1 m c), (hin 2 rfl).trans (V_main_arg2 m c),
      (hin 3 rfl).trans (V_main_arg3 m c), (hin 4 rfl).trans (V_main_arg4 m c),
      ((h.1 c).2 main_arg5 (Pipeline.mem_restRefs_of main_arg5 (by decide) (by decide))).trans (V_main_arg5 m c),
      (hin 6 rfl).trans (V_main_arg6 m c),
      ((h.1 c).2 main_arg7 (Pipeline.mem_restRefs_of main_arg7 (by decide) (by decide))).trans (V_main_arg7 m c)⟩)
    (trun m ρ (Y m) (tiled m))

/-- A column's scales reshaped to one row, entry by entry. -/
theorem V_col (x : Vec Ideal S8640 .f32) (n : Fin 8640) : shapeCast S1x8640 x shapeCasts_S8640_S1x8640 (ix2 0 n) = x (ix1 n) := by
  refine shapeCast_apply _ _ _ _ ?_
  rw [Shape.rowMajor_val_one, Shape.rowMajor_val_two]
  show n.val = 0 * 8640 + n.val
  omega

/-- The 8-bit weights' scales as the region finds them: the argument, reshaped to one row, -/
theorem V_v0 (c : Dev nD) : V m c main_v0 = shapeCast S1x8640 (m ((c.tc : Thread nD τ).loc main_arg5)) shapeCasts_S8640_S1x8640 := by
  unfold V
  simp only [hostOps0, StableHlo.after_cons, StableHlo.after_nil]
  rw [StableHlo.reshape_result_ne]
  · exact StableHlo.reshape_result _ _ _ _ _ _ _
  all_goals decide

/-- and the 4-bit weights' scales likewise. -/
theorem V_v1 (c : Dev nD) : V m c main_v1 = shapeCast S1x8640 (m ((c.tc : Thread nD τ).loc main_arg7)) shapeCasts_S8640_S1x8640 := by
  unfold V
  simp only [hostOps0, StableHlo.after_cons, StableHlo.after_nil]
  refine (StableHlo.reshape_result _ _ _ _ _ _ _).trans ?_
  rw [StableHlo.reshape_result_ne]
  · rfl
  all_goals decide

end Cert.KernelIdeal.Hand

end
-- ==== Proof.RefValue.lean ====
/-
  The reference's result over the extended reals, entry by entry.
-/
module

public import proofs.«01_k».proof.Proof.Gen.ReferenceIdeal.Value
public import proofs.«01_k».proof.Proof.Spec

@[expose] public section

set_option maxRecDepth 16384

noncomputable section

namespace Cert.ReferenceIdeal.Hand

open Cert.ReferenceIdeal Cert.ReferenceIdeal.Gen Cert.Spec
open Idealize.ShloMosaic Idealize.ShloMosaic.TcCoe Idealize.ShloMosaic.ValueIdx
open Idealize.ShloMosaic.Pipeline (Window Dat)

/-- The reference's way of reading a nibble as a signed number: sixteen less from eight on. -/
abbrev sgn (n : BitVec 8) : BitVec 8 := IntOp.subi n (IntOp.muli 16#8 ((IntOp.cmpi .sge n 8#8).setWidth 8))

/-- It agrees with the arithmetic shift on the low nibble, -/
theorem lo_eq : ∀ b : BitVec 8, (sgn (b &&& 15#8)).toInt = (((b.setWidth 32) <<< 28).sshiftRight 28).toInt := by decide +kernel

/-- and on the high one. -/
theorem hi_eq : ∀ b : BitVec 8, (sgn (((b.setWidth 32).sshiftRight 4).setWidth 8)).toInt = (((b.setWidth 32) <<< 24).sshiftRight 28).toInt := by decide +kernel

/-- The word of zero is the number zero. -/
theorem zero_word : (FloatOps.ofBits .f32 0x00000000#32 : Ideal .f32) = 0 := by
  simp

/-- The 8-bit product, entry by entry. -/
theorem pay2_apply (P2 : Vec Ideal S8192x360 .i8) (P3 : Vec Ideal S360x8640 .i8) (r : Fin 8192) (n : Fin 8640) :
    k0_pay2 P2 P3 (ix2 r n) = ∑ k, num (P2 (ix2 r k)) * num (P3 (ix2 k n)) := by
  unfold k0_pay2
  refine (Ideal.matmul_plain_apply (M := 8192) (K := 360) (N := 8640) none _ _ (constant S8192x8640 .f32 0x00000000#32) r n).trans ?_
  rw [show constant (F := Ideal) S8192x8640 .f32 0x00000000#32 (ix2 r n) = 0 from zero_word, zero_add]
  rfl

/-- The 4-bit product, entry by entry. -/
theorem pay3_apply (P6 : Vec Ideal S1260x8640 .i8) (P7 : Vec Ideal S8192x2520 .i8) (r : Fin 8192) (n : Fin 8640) :
    k0_pay3 P6 P6 P7 (ix2 r n) = (∑ k : Fin 1260, num (P7 (ix2 r ⟨k, by omega⟩)) * lo (P6 (ix2 k n)))
      + ∑ k : Fin 1260, num (P7 (ix2 r ⟨1260 + k, by omega⟩)) * hi (P6 (ix2 k n)) := by
  unfold k0_pay3
  refine congrArg₂ (· + ·) ?_ ?_
  · refine (Ideal.matmul_plain_apply (M := 8192) (K := 1260) (N := 8640) none _ _ (constant S8192x8640 .f32 0x00000000#32) r n).trans ?_
    rw [show constant (F := Ideal) S8192x8640 .f32 0x00000000#32 (ix2 r n) = 0 from zero_word, zero_add]
    refine Finset.sum_congr rfl fun k _ => congrArg₂ (· * ·) ?_ ?_
    · refine congrArg (fun i => num (P7 i)) (funext fun a => Fin.ext ?_)
      match a with
      | ⟨0, _⟩ => show 0 + r.val = r.val; omega
      | ⟨1, _⟩ => show 0 + k.val = k.val; omega
    · exact congrArg (fun z : ℤ => ((z : ℝ) : EReal)) (lo_eq (P6 (ix2 k n)))
  · refine (Ideal.matmul_plain_apply (M := 8192) (K := 1260) (N := 8640) none _ _ (constant S8192x8640 .f32 0x00000000#32) r n).trans ?_
    rw [show constant (F := Ideal) S8192x8640 .f32 0x00000000#32 (ix2 r n) = 0 from zero_word, zero_add]
    refine Finset.sum_congr rfl fun k _ => congrArg₂ (· * ·) ?_ ?_
    · refine congrArg (fun i => num (P7 i)) (funext fun a => Fin.ext ?_)
      match a with
      | ⟨0, _⟩ => show 0 + r.val = r.val; omega
      | ⟨1, _⟩ => rfl
    · exact congrArg (fun z : ℤ => ((z : ℝ) : EReal)) (hi_eq (P6 (ix2 k n)))

/-- An entry of the block the body leaves. -/
theorem E8_apply (P0 : Vec Ideal S8192x1 .f32) (P1 : Vec Ideal S1x8640 .f32) (P2 : Vec Ideal S8192x360 .i8) (P3 : Vec Ideal S360x8640 .i8)
    (P4 : Vec Ideal S8192x1 .f32) (P5 : Vec Ideal S1x8640 .f32) (P6 : Vec Ideal S1260x8640 .i8) (P7 : Vec Ideal S8192x2520 .i8) (r : Fin 8192) (n : Fin 8640) :
    Value.E8 P0 P1 P2 P3 P4 P5 P6 P7 (ix2 r n) = entry (fun k => P2 (ix2 r k)) (fun k => P3 (ix2 k n)) (fun k => P7 (ix2 r k)) (fun k => P6 (ix2 k n))
      (P0 (ix2 r 0)) (P1 (ix2 0 n)) (P4 (ix2 r 0)) (P5 (ix2 0 n)) := by
  have i2 : Value.ix8_2 (ix2 r n) = ix2 r n := eq_ix2 _
  have i5 : Value.ix8_5 (ix2 r n) = ix2 r n := eq_ix2 _
  have i0 : Value.ix8_0 (ix2 r n) = ix2 r 0 := eq_ix2 _
  have i1 : Value.ix8_1 (ix2 r n) = ix2 0 n := eq_ix2 _
  have i3 : Value.ix8_3 (ix2 r n) = ix2 r 0 := eq_ix2 _
  have i4 : Value.ix8_4 (ix2 r n) = ix2 0 n := eq_ix2 _
  unfold entry
  rw [← pay2_apply, ← pay3_apply, Value.E8, i0, i1, i2, i3, i4, i5]
  rfl

variable (m : (ℓ : Loc nD τ sig) → Buf (Elt Ideal) ℓ)

/-- The offsets of a whole load. -/
theorem off_zero : (![0, 0] : Fin 2 → Nat) = fun _ => 0 := by
  funext a; match a with | ⟨0, _⟩ => rfl | ⟨1, _⟩ => rfl

/-- The one point's blocks start at the origin. -/
theorem idx0 : ∀ t : Fin cfg0.N, win0_0.index t 0 = 0 ∧ win0_0.index t 1 = 0 := (by decide +kernel : ∀ t : Fin grid0.N, win0_0.index t 0 = 0 ∧ win0_0.index t 1 = 0)
theorem idx1 : ∀ t : Fin cfg0.N, win0_1.index t 0 = 0 ∧ win0_1.index t 1 = 0 := (by decide +kernel : ∀ t : Fin grid0.N, win0_1.index t 0 = 0 ∧ win0_1.index t 1 = 0)
theorem idx2 : ∀ t : Fin cfg0.N, win0_2.index t 0 = 0 ∧ win0_2.index t 1 = 0 := (by decide +kernel : ∀ t : Fin grid0.N, win0_2.index t 0 = 0 ∧ win0_2.index t 1 = 0)
theorem idx3 : ∀ t : Fin cfg0.N, win0_3.index t 0 = 0 ∧ win0_3.index t 1 = 0 := (by decide +kernel : ∀ t : Fin grid0.N, win0_3.index t 0 = 0 ∧ win0_3.index t 1 = 0)
theorem idx4 : ∀ t : Fin cfg0.N, win0_4.index t 0 = 0 ∧ win0_4.index t 1 = 0 := (by decide +kernel : ∀ t : Fin grid0.N, win0_4.index t 0 = 0 ∧ win0_4.index t 1 = 0)
theorem idx5 : ∀ t : Fin cfg0.N, win0_5.index t 0 = 0 ∧ win0_5.index t 1 = 0 := (by decide +kernel : ∀ t : Fin grid0.N, win0_5.index t 0 = 0 ∧ win0_5.index t 1 = 0)
theorem idx6 : ∀ t : Fin cfg0.N, win0_6.index t 0 = 0 ∧ win0_6.index t 1 = 0 := (by decide +kernel : ∀ t : Fin grid0.N, win0_6.index t 0 = 0 ∧ win0_6.index t 1 = 0)
theorem idx7 : ∀ t : Fin cfg0.N, win0_7.index t 0 = 0 ∧ win0_7.index t 1 = 0 := (by decide +kernel : ∀ t : Fin grid0.N, win0_7.index t 0 = 0 ∧ win0_7.index t 1 = 0)
theorem idx8 : ∀ t : Fin cfg0.N, win0_8.index t 0 = 0 ∧ win0_8.index t 1 = 0 := (by decide +kernel : ∀ t : Fin grid0.N, win0_8.index t 0 = 0 ∧ win0_8.index t 1 = 0)

/-- Each input window's block is its array. -/
theorem blk0 (c : Dev nD) (t : Fin cfg0.N) : iblk m c 0 t = V m c main_arg0 := by
  funext y
  refine (View.read_apply _ _).trans ((cast_eq _ _).trans (congrArg (V m c main_arg0) (funext fun a => Fin.ext ?_)))
  refine (Window.rect_emb_val win0_0 t y a).trans ?_
  match a with
  | ⟨0, _⟩ => show win0_0.index t 0 * 8192 + (y 0).val = (y 0).val; rw [(idx0 t).1]; omega
  | ⟨1, _⟩ => show win0_0.index t 1 * 360 + (y 1).val = (y 1).val; rw [(idx0 t).2]; omega
theorem blk1 (c : Dev nD) (t : Fin cfg0.N) : iblk m c 1 t = V m c main_v0 := by
  funext y
  refine (View.read_apply _ _).trans ((cast_eq _ _).trans (congrArg (V m c main_v0) (funext fun a => Fin.ext ?_)))
  refine (Window.rect_emb_val win0_1 t y a).trans ?_
  match a with
  | ⟨0, _⟩ => show win0_1.index t 0 * 8192 + (y 0).val = (y 0).val; rw [(idx1 t).1]; omega
  | ⟨1, _⟩ => show win0_1.index t 1 * 1 + (y 1).val = (y 1).val; rw [(idx1 t).2]; omega
theorem blk2 (c : Dev nD) (t : Fin cfg0.N) : iblk m c 2 t = V m c main_arg2 := by
  funext y
  refine (View.read_apply _ _).trans ((cast_eq _ _).trans (congrArg (V m c main_arg2) (funext fun a => Fin.ext ?_)))
  refine (Window.rect_emb_val win0_2 t y a).trans ?_
  match a with
  | ⟨0, _⟩ => show win0_2.index t 0 * 8192 + (y 0).val = (y 0).val; rw [(idx2 t).1]; omega
  | ⟨1, _⟩ => show win0_2.index t 1 * 2520 + (y 1).val = (y 1).val; rw [(idx2 t).2]; omega
theorem blk3 (c : Dev nD) (t : Fin cfg0.N) : iblk m c 3 t = V m c main_v1 := by
  funext y
  refine (View.read_apply _ _).trans ((cast_eq _ _).trans (congrArg (V m c main_v1) (funext fun a => Fin.ext ?_)))
  refine (Window.rect_emb_val win0_3 t y a).trans ?_
  match a with
  | ⟨0, _⟩ => show win0_3.index t 0 * 8192 + (y 0).val = (y 0).val; rw [(idx3 t).1]; omega
  | ⟨1, _⟩ => show win0_3.index t 1 * 1 + (y 1).val = (y 1).val; rw [(idx3 t).2]; omega
theorem blk4 (c : Dev nD) (t : Fin cfg0.N) : iblk m c 4 t = V m c main_arg4 := by
  funext y
  refine (View.read_apply _ _).trans ((cast_eq _ _).trans (congrArg (V m c main_arg4) (funext fun a => Fin.ext ?_)))
  refine (Window.rect_emb_val win0_4 t y a).trans ?_
  match a with
  | ⟨0, _⟩ => show win0_4.index t 0 * 360 + (y 0).val = (y 0).val; rw [(idx4 t).1]; omega
  | ⟨1, _⟩ => show win0_4.index t 1 * 8640 + (y 1).val = (y 1).val; rw [(idx4 t).2]; omega
theorem blk5 (c : Dev nD) (t : Fin cfg0.N) : iblk m c 5 t = V m c main_v2 := by
  funext y
  refine (View.read_apply _ _).trans ((cast_eq _ _).trans (congrArg (V m c main_v2) (funext fun a => Fin.ext ?_)))
  refine (Window.rect_emb_val win0_5 t y a).trans ?_
  match a with
  | ⟨0, _⟩ => show win0_5.index t 0 * 1 + (y 0).val = (y 0).val; rw [(idx5 t).1]; omega
  | ⟨1, _⟩ => show win0_5.index t 1 * 8640 + (y 1).val = (y 1).val; rw [(idx5 t).2]; omega
theorem blk6 (c : Dev nD) (t : Fin cfg0.N) : iblk m c 6 t = V m c main_arg6 := by
  funext y
  refine (View.read_apply _ _).trans ((cast_eq _ _).trans (congrArg (V m c main_arg6) (funext fun a => Fin.ext ?_)))
  refine (Window.rect_emb_val win0_6 t y a).trans ?_
  match a with
  | ⟨0, _⟩ => show win0_6.index t 0 * 1260 + (y 0).val = (y 0).val; rw [(idx6 t).1]; omega
  | ⟨1, _⟩ => show win0_6.index t 1 * 8640 + (y 1).val = (y 1).val; rw [(idx6 t).2]; omega
theorem blk7 (c : Dev nD) (t : Fin cfg0.N) : iblk m c 7 t = V m c main_v3 := by
  funext y
  refine (View.read_apply _ _).trans ((cast_eq _ _).trans (congrArg (V m c main_v3) (funext fun a => Fin.ext ?_)))
  refine (Window.rect_emb_val win0_7 t y a).trans ?_
  match a with
  | ⟨0, _⟩ => show win0_7.index t 0 * 1 + (y 0).val = (y 0).val; rw [(idx7 t).1]; omega
  | ⟨1, _⟩ => show win0_7.index t 1 * 8640 + (y 1).val = (y 1).val; rw [(idx7 t).2]; omega

/-- The result: every entry the plain mathematics of its row and its column of the arrays. -/
def Y (c : Dev nD) : Buf (Elt Ideal) ((c : Thread nD τ).loc main_v4) := fun i : S8192x8640.Idx =>
  entry (fun k => V m c main_arg0 (ix2 (i 0) k)) (fun k => V m c main_arg4 (ix2 k (i 1)))
    (fun k => V m c main_arg2 (ix2 (i 0) k)) (fun k => V m c main_arg6 (ix2 k (i 1)))
    (V m c main_v0 (ix2 (i 0) 0)) (V m c main_v2 (ix2 0 (i 1))) (V m c main_v1 (ix2 (i 0) 0)) (V m c main_v3 (ix2 0 (i 1)))

/-- A load of a whole buffer reads the buffer. -/
theorem ld_all {S : Shape} {e : EltTy} (x : Vec Ideal S e) (off : Fin S.rank → Nat) (h : off = fun _ => 0) (inb) :
    View.ld x (Rect.unit (s := S) off S.size inb) = x := by
  subst h
  funext j
  refine congrArg x (funext fun a => Fin.ext ?_)
  refine (Rect.emb_apply _ _ _).trans ?_
  show 0 + 1 * (j a).val = (j a).val
  omega

/-- What the body leaves in the output block. -/
theorem out_apply (x0 : Vec Ideal S8192x360 .i8) (x1 : Vec Ideal S8192x1 .f32) (x2 : Vec Ideal S8192x2520 .i8) (x3 : Vec Ideal S8192x1 .f32)
    (x4 : Vec Ideal S360x8640 .i8) (x5 : Vec Ideal S1x8640 .f32) (x6 : Vec Ideal S1260x8640 .i8) (x7 : Vec Ideal S1x8640 .f32) (r : Fin 8192) (n : Fin 8640) :
    out0_8 x0 x1 x2 x3 x4 x5 x6 x7 (ix2 r n) = entry (fun k => x0 (ix2 r k)) (fun k => x4 (ix2 k n)) (fun k => x2 (ix2 r k)) (fun k => x6 (ix2 k n))
      (x1 (ix2 r 0)) (x5 (ix2 0 n)) (x3 (ix2 r 0)) (x7 (ix2 0 n)) := by
  unfold out0_8
  rw [Value.canon8_eq, E8_apply, ld_all x0 _ off_zero, ld_all x1 _ off_zero, ld_all x2 _ off_zero, ld_all x3 _ off_zero, ld_all x4 _ off_zero,
    ld_all x5 _ off_zero, ld_all x6 _ off_zero, ld_all x7 _ off_zero]

/-- The reference's array after the run. -/
theorem arr_eq (c : Dev nD) : (dats m 0 c).arrAt 8 cfg0.N = Y m c := by
  have hemb : ∀ (t : Fin cfg0.N) (y : S8192x8640.Idx), (win0_8.rect t).emb y = y := fun t y => by
    funext a; apply Fin.ext
    refine (Window.rect_emb_val win0_8 t y a).trans ?_
    match a with
    | ⟨0, _⟩ => show win0_8.index t 0 * 8192 + (y 0).val = (y 0).val; rw [(idx8 t).1]; omega
    | ⟨1, _⟩ => show win0_8.index t 1 * 8640 + (y 1).val = (y 1).val; rw [(idx8 t).2]; omega
  refine (dats m 0 c).arrAt_eq_of_cover 8 (Y m c) (fun t _ => ?_) (fun i => ?_)
  · rw [Value.flushed8, blk0, blk1, blk2, blk3, blk4, blk5, blk6, blk7]
    funext y
    refine Eq.trans (congrArg _ (eq_ix2 (n0 := 8192) (n1 := 8640) y)) ((out_apply _ _ _ _ _ _ _ _ _ _).trans (Eq.symm ?_))
    exact (View.read_apply _ _).trans ((cast_eq _ _).trans (congrArg (Y m c) (hemb t y)))
  · have t : Fin cfg0.N := (⟨0, by decide⟩ : Fin grid0.N)
    refine ⟨t, (by decide +kernel : ∀ t : Fin grid0.N, win0_8.flush t = true) t, ?_⟩
    have h := View.emb_mem_set ((cfg0.win 8).blk t).view (show S8192x8640.Idx from i)
    have e : ((cfg0.win 8).blk t).view.emb (show S8192x8640.Idx from i) = i := hemb t i
    rw [e] at h
    exact h

/-- Row scales reshaped to one column, entry by entry, -/
theorem V_row (x : Vec Ideal S16x512 .f32) (r : Fin 8192) :
    shapeCast S8192x1 x shapeCasts_S16x512_S8192x1 (ix2 r 0) = x (ix2 ⟨r.val / 512, by omega⟩ ⟨r.val % 512, Nat.mod_lt _ (by decide)⟩) := by
  refine shapeCast_apply _ _ _ _ ?_
  rw [Shape.rowMajor_val_two, Shape.rowMajor_val_two]
  show r.val / 512 * 512 + r.val % 512 = r.val * 1 + 0
  omega

/-- and a column's scales reshaped to one row. -/
theorem V_col (x : Vec Ideal S8640 .f32) (n : Fin 8640) : shapeCast S1x8640 x shapeCasts_S8640_S1x8640 (ix2 0 n) = x (ix1 n) := by
  refine shapeCast_apply _ _ _ _ ?_
  rw [Shape.rowMajor_val_one, Shape.rowMajor_val_two]
  show n.val = 0 * 8640 + n.val
  omega

/-- What the four reshapes leave: the 8-bit codes' row scales as one column, -/
theorem V_v0 (c : Dev nD) : V m c main_v0 = shapeCast S8192x1 (m ((c.tc : Thread nD τ).loc main_arg1)) shapeCasts_S16x512_S8192x1 := by
  unfold V
  simp only [hostOps0, StableHlo.after_cons, StableHlo.after_nil]
  rw [StableHlo.reshape_result_ne, StableHlo.reshape_result_ne, StableHlo.reshape_result_ne]
  · exact StableHlo.reshape_result _ _ _ _ _ _ _
  all_goals decide

/-- the 4-bit codes' row scales as one column, -/
theorem V_v1 (c : Dev nD) : V m c main_v1 = shapeCast S8192x1 (m ((c.tc : Thread nD τ).loc main_arg3)) shapeCasts_S16x512_S8192x1 := by
  unfold V
  simp only [hostOps0, StableHlo.after_cons, StableHlo.after_nil]
  rw [StableHlo.reshape_result_ne, StableHlo.reshape_result_ne]
  refine (StableHlo.reshape_result _ _ _ _ _ _ _).trans ?_
  rw [StableHlo.reshape_result_ne]
  · rfl
  all_goals decide

/-- the 8-bit weights' scales as one row, -/
theorem V_v2 (c : Dev nD) : V m c main_v2 = shapeCast S1x8640 (m ((c.tc : Thread nD τ).loc main_arg5)) shapeCasts_S8640_S1x8640 := by
  unfold V
  simp only [hostOps0, StableHlo.after_cons, StableHlo.after_nil]
  rw [StableHlo.reshape_result_ne]
  refine (StableHlo.reshape_result _ _ _ _ _ _ _).trans ?_
  rw [StableHlo.reshape_result_ne, StableHlo.reshape_result_ne]
  · rfl
  all_goals decide

/-- and the 4-bit weights' scales as one row. -/
theorem V_v3 (c : Dev nD) : V m c main_v3 = shapeCast S1x8640 (m ((c.tc : Thread nD τ).loc main_arg7)) shapeCasts_S8640_S1x8640 := by
  unfold V
  simp only [hostOps0, StableHlo.after_cons, StableHlo.after_nil]
  refine (StableHlo.reshape_result _ _ _ _ _ _ _).trans ?_
  rw [StableHlo.reshape_result_ne, StableHlo.reshape_result_ne, StableHlo.reshape_result_ne]
  · rfl
  all_goals decide

end Cert.ReferenceIdeal.Hand

end
-- ==== Proof.Equal.lean ====
/-
  The two programs' results are equal over the extended reals.
-/
module

public import proofs.«01_k».proof.Proof.Value
public import proofs.«01_k».proof.Proof.RefValue

@[expose] public section

set_option maxRecDepth 16384

noncomputable section

namespace Cert

open Idealize.ShloMosaic Idealize.ShloMosaic.TcCoe Idealize.ShloMosaic.ValueIdx Idealize.SL.Sem

variable (m : (ℓ : Loc KernelIdeal.nD KernelIdeal.τ KernelIdeal.sig) → Buf (Elt Ideal) ℓ)
  (m' : (ℓ : Loc ReferenceIdeal.nD ReferenceIdeal.τ ReferenceIdeal.sig) → Buf (Elt Ideal) ℓ)

/-- From equal arguments the reference's matrix is the kernel's. -/
theorem matrix_eq (c : Dev KernelIdeal.nD)
    (h0 : m' ((c.tc : Thread ReferenceIdeal.nD ReferenceIdeal.τ).loc ReferenceIdeal.main_arg0) = m ((c.tc : Thread KernelIdeal.nD KernelIdeal.τ).loc KernelIdeal.main_arg0))
    (h1 : m' ((c.tc : Thread ReferenceIdeal.nD ReferenceIdeal.τ).loc ReferenceIdeal.main_arg1) = m ((c.tc : Thread KernelIdeal.nD KernelIdeal.τ).loc KernelIdeal.main_arg1))
    (h2 : m' ((c.tc : Thread ReferenceIdeal.nD ReferenceIdeal.τ).loc ReferenceIdeal.main_arg2) = m ((c.tc : Thread KernelIdeal.nD KernelIdeal.τ).loc KernelIdeal.main_arg2))
    (h3 : m' ((c.tc : Thread ReferenceIdeal.nD ReferenceIdeal.τ).loc ReferenceIdeal.main_arg3) = m ((c.tc : Thread KernelIdeal.nD KernelIdeal.τ).loc KernelIdeal.main_arg3))
    (h4 : m' ((c.tc : Thread ReferenceIdeal.nD ReferenceIdeal.τ).loc ReferenceIdeal.main_arg4) = m ((c.tc : Thread KernelIdeal.nD KernelIdeal.τ).loc KernelIdeal.main_arg4))
    (h5 : m' ((c.tc : Thread ReferenceIdeal.nD ReferenceIdeal.τ).loc ReferenceIdeal.main_arg5) = m ((c.tc : Thread KernelIdeal.nD KernelIdeal.τ).loc KernelIdeal.main_arg5))
    (h6 : m' ((c.tc : Thread ReferenceIdeal.nD ReferenceIdeal.τ).loc ReferenceIdeal.main_arg6) = m ((c.tc : Thread KernelIdeal.nD KernelIdeal.τ).loc KernelIdeal.main_arg6))
    (h7 : m' ((c.tc : Thread ReferenceIdeal.nD ReferenceIdeal.τ).loc ReferenceIdeal.main_arg7) = m ((c.tc : Thread KernelIdeal.nD KernelIdeal.τ).loc KernelIdeal.main_arg7)) :
    (ReferenceIdeal.Hand.Y m' c : KernelIdeal.S8192x8640.Idx → EReal) = KernelIdeal.Hand.Y m c := by
  funext i
  have e0 := (ReferenceIdeal.Gen.V_main_arg0 m' c).trans (h0.trans (KernelIdeal.Gen.V_main_arg0 m c).symm)
  have e2 := (ReferenceIdeal.Gen.V_main_arg2 m' c).trans (h2.trans (KernelIdeal.Gen.V_main_arg2 m c).symm)
  have e4 := (ReferenceIdeal.Gen.V_main_arg4 m' c).trans (h4.trans (KernelIdeal.Gen.V_main_arg4 m c).symm)
  have e6 := (ReferenceIdeal.Gen.V_main_arg6 m' c).trans (h6.trans (KernelIdeal.Gen.V_main_arg6 m c).symm)
  have k1 := KernelIdeal.Gen.V_main_arg1 m c
  have k3 := KernelIdeal.Gen.V_main_arg3 m c
  refine Spec.entry_congr (fun k => congrFun e0 _) (fun k => congrFun e4 _) (fun k => congrFun e2 _) (fun k => congrFun e6 _) ?_ ?_ ?_ ?_
  · exact (congrFun (ReferenceIdeal.Hand.V_v0 m' c) _).trans ((ReferenceIdeal.Hand.V_row _ _).trans (congrFun (h1.trans k1.symm) _))
  · exact (congrFun (ReferenceIdeal.Hand.V_v2 m' c) _).trans ((ReferenceIdeal.Hand.V_col _ _).trans ((congrFun h5 _).trans
      ((congrFun (KernelIdeal.Hand.V_v0 m c) _).trans (KernelIdeal.Hand.V_col _ _)).symm))
  · exact (congrFun (ReferenceIdeal.Hand.V_v1 m' c) _).trans ((ReferenceIdeal.Hand.V_row _ _).trans (congrFun (h3.trans k3.symm) _))
  · exact (congrFun (ReferenceIdeal.Hand.V_v3 m' c) _).trans ((ReferenceIdeal.Hand.V_col _ _).trans ((congrFun h7 _).trans
      ((congrFun (KernelIdeal.Hand.V_v1 m c) _).trans (KernelIdeal.Hand.V_col _ _)).symm))

end Cert

end
-- ==== Proof.KRBody.lean ====
/-
  The quantising call's body, run once at a grid point.

  From the six current staging buffers, the body leaves the two inputs as they were, the two blocks of integer codes at
  the skeleton's payloads of the inputs, and, in each of the two scale arrays, ONE row (the point's) at the payload
  and every other row as it was.
-/
module

public import proofs.«01_k».proof.Proof.Gen.Rotate.Skeleton
public import proofs.«01_k».proof.Proof.Gen.Rotate.Launch
public import proofs.«01_k».proof.Proof.Gen.Rotate.Points
public import Idealize.ShloMosaic.Lib.Pipeline.Frame
public import Idealize.ShloMosaic.Lib.Pipeline.Value
public import Idealize.ShloMosaic.Lib.VecWindow
public import Idealize.ShloMosaic.Lib.Tactic

@[expose] public section

set_option maxRecDepth 16384

noncomputable section

namespace Cert.Rotate.Hand

open Cert.Rotate Cert.Rotate.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

/-- The literal one that the body hands from its first part to its second. -/
abbrev one32 : F .f32 := Scalar.ofBits .f32 0x3F800000#32

/-- The block of 8-bit codes that the body stores, from a block of rows of `x` and the whole of `u`. -/
def hcB (x : Vec F S512x2880 .bf16) (u : Vec F S2880x2880 .bf16) : IVec S512x360 8 := k0_pay2 (k0_pay9 x u)
/-- The block of 4-bit codes. -/
def lcB (x : Vec F S512x2880 .bf16) (u : Vec F S2880x2880 .bf16) : IVec S512x2520 8 :=
  k0_pay3 (k0_pay10 x u) (k0_pay12 x u) (k0_pay13 x u) one32
/-- The row of 8-bit scales. -/
def hsB (x : Vec F S512x2880 .bf16) (u : Vec F S2880x2880 .bf16) : FVec F S1x512 .f32 := k0_pay4 (k0_pay8 x u)
/-- The row of 4-bit scales. -/
def lsB (x : Vec F S512x2880 .bf16) (u : Vec F S2880x2880 .bf16) : FVec F S1x512 .f32 :=
  k0_pay5 (k0_pay12 x u) (k0_pay13 x u) one32

/-- The row of a scale array that the point at coordinates `i` stores. -/
abbrev rowR (i : grid0.Coords) : Rect S16x512 := Rect.unit (s := S16x512) (k0_off1 i) S1x512.size (k0_off1_inb i)

/-- `X` is `Y` with the point's row replaced by `r`. -/
def RowSet (i : grid0.Coords) (r : FVec F S1x512 .f32) (Y X : Vec F S16x512 .f32) : Prop :=
  (∀ y, y ∉ (rowR i).set → X y = Y y) ∧ ∀ x : S1x512.Idx, X ((rowR i).emb x) = r x

/-- A scale array's buffer after ONE store of a row over contents `f`, as the assertion the body's triple makes of it. -/
theorem row_close (c : Dev nD) (i : grid0.Coords) (M : Memref sig .tc .vmem S16x512 .f32) (f : M.view.ty.Contents (Elt F))
    (p r : FVec F S1x512 .f32) (hp : p = r) (Y : Vec F S16x512 .f32) (hY : M.view.read (Elt F) f = Y) :
    (M.view.loc (c : Thread nD τ) ↦[M.view.set]{fullShare} M.view.writes (Elt F) f [⟨rowR i, p⟩] : sProp 𝕄)
      ⊢ iprop(∃ X, ⌜RowSet i r Y X⌝ ∗ owns (c : Thread nD τ) M fullShare X) := by
  subst hp hY
  unfold owns
  iintro H
  iexists M.view.read (Elt F) (M.view.writes (Elt F) f [⟨rowR i, p⟩])
  isplitr
  · ipureintro
    exact ⟨fun y hy => View.read_writes_cons_miss _ f ⟨rowR i, p⟩ [] y hy, fun x => View.read_writes_cons_emb _ f (rowR i) p [] x⟩
  iexists _; isplitr
  swap; · iexact H
  ipureintro; rfl

set_option maxHeartbeats 1000000 in
/-- The body's triple. -/
theorem sound_quant (c : Dev nD) (E : Set ℕ) (i : grid0.Coords)
    (arg1 : Memref sig .tc .vmem S512x2880 .bf16) (harg1 : arg1.IsWhole) (arg2 : Memref sig .tc .vmem S2880x2880 .bf16) (harg2 : arg2.IsWhole)
    (arg3 : Memref sig .tc .vmem S512x360 .i8) (harg3 : arg3.IsWhole) (arg4 : Memref sig .tc .vmem S16x512 .f32) (harg4 : arg4.IsWhole)
    (arg5 : Memref sig .tc .vmem S512x2520 .i8) (harg5 : arg5.IsWhole) (arg6 : Memref sig .tc .vmem S16x512 .f32) (harg6 : arg6.IsWhole)
    (x1 : Vec F S512x2880 .bf16) (x2 : Vec F S2880x2880 .bf16) (x3 : Vec F S512x360 .i8) (x4 : Vec F S16x512 .f32)
    (x5 : Vec F S512x2520 .i8) (x6 : Vec F S16x512 .f32) (K : PUnit → sProp 𝕄) :
    iprop(owns (c : Thread nD τ) arg1 fullShare x1 ∗ owns (c : Thread nD τ) arg2 fullShare x2 ∗ owns (c : Thread nD τ) arg3 fullShare x3
        ∗ owns (c : Thread nD τ) arg4 fullShare x4 ∗ owns (c : Thread nD τ) arg5 fullShare x5 ∗ owns (c : Thread nD τ) arg6 fullShare x6
        ∗ (iprop(owns (c : Thread nD τ) arg1 fullShare x1 ∗ owns (c : Thread nD τ) arg2 fullShare x2
            ∗ owns (c : Thread nD τ) arg3 fullShare (hcB x1 x2)
            ∗ (∃ X, ⌜RowSet i (hsB x1 x2) x4 X⌝ ∗ owns (c : Thread nD τ) arg4 fullShare X)
            ∗ owns (c : Thread nD τ) arg5 fullShare (lcB x1 x2)
            ∗ (∃ X, ⌜RowSet i (lsB x1 x2) x6 X⌝ ∗ owns (c : Thread nD τ) arg6 fullShare X)) -∗ K ⟨⟩))
      ⊢ wp frame (wpE (defs₀ (F := F)) Variants.none c none) E (cc0_rotate_quant i arg1 harg1 arg2 harg2 arg3 harg3 arg4 harg4 arg5 harg5 arg6 harg6) K := by
  simp only [cc0_rotate_quant_eq_skeleton]; unfold cc0_rotate_quant_skel
  simp only [k0_part1_eq_skeleton]
  unfold owns
  iintro ⟨⟨%f1, %hf1, H1⟩, ⟨%f2, %hf2, H2⟩, ⟨%f3, -, H3⟩, ⟨%f4, %hf4, H4⟩, ⟨%f5, -, H5⟩, ⟨%f6, %hf6, H6⟩, Hk⟩
  sl_exec
  sl_step
  have e1 : View.ld (arg1.view.read (Elt F) f1) (Rect.unit (s := S512x2880) ![0, 0] S512x2880.size inb_S512x2880_S512x2880_0_0) = x1 := by
    rw [hf1]; exact View.ld_unit_zero (by funext a; fin_cases a <;> rfl) _ x1
  have e2 : View.ld (arg2.view.read (Elt F) f2) (Rect.unit (s := S2880x2880) ![0, 0] S2880x2880.size inb_S2880x2880_S2880x2880_0_0) = x2 := by
    rw [hf2]; exact View.ld_unit_zero (by funext a; fin_cases a <;> rfl) _ x2
  iapply Hk
  isplitl [H1]
  · iexists f1; isplitr; · ipureintro; exact hf1
    iexact H1
  isplitl [H2]
  · iexists f2; isplitr; · ipureintro; exact hf2
    iexact H2
  isplitl [H3]
  · iexists _; isplitr
    swap; · iexact H3
    ipureintro
    refine (View.read_writes_eq_canon _ _ _ (View.cover_of_tiled _ S512x360.size (by rfl))).trans ?_
    refine (View.canon_unit_zero (by funext a; fin_cases a <;> rfl) _ _).trans ?_
    exact congrArg₂ hcB e1 e2
  isplitl [H4]
  · iapply (row_close c i arg4 f4 _ _ (congrArg₂ hsB e1 e2) x4 hf4); iexact H4
  isplitl [H5]
  · iexists _; isplitr
    swap; · iexact H5
    ipureintro
    refine (View.read_writes_eq_canon _ _ _ (View.cover_of_tiled _ S512x2520.size (by rfl))).trans ?_
    refine (View.canon_unit_zero (by funext a; fin_cases a <;> rfl) _ _).trans ?_
    exact congrArg₂ lcB e1 e2
  iapply (row_close c i arg6 f6 _ _ (congrArg₂ lsB e1 e2) x6 hf6); iexact H6

end Cert.Rotate.Hand

end
-- ==== Proof.KRRun.lean ====
/-
  The quantising call's run.

  The two inputs and the two arrays of codes are held to exact contents. Of each scale array, which stays in its buffer
  over the whole grid and of which a point stores its own row, it is known after a point that the rows up to the point's
  are the rows those points computed; nothing is known of the later rows. At the last point every row is known, and that
  is the only point whose buffer is written back.
-/
module

public import proofs.«01_k».proof.Proof.KRBody
public import proofs.«01_k».proof.Proof.Gen.Rotate.Frame
public import Idealize.ShloMosaic.Lib.Pipeline.DatRel
public import Idealize.ShloMosaic.Lib.Pipeline.ArrRel
public import Idealize.ShloMosaic.Lib.ValueIdx

@[expose] public section

set_option maxRecDepth 16384

noncomputable section

namespace Cert.Rotate.Hand

open Cert.Rotate Cert.Rotate.Gen

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligationRel cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The exact part of the proof data; the scale arrays' entries are placeholders, of which `rows` speaks instead. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => hcB (iblk m c 0 t) (iblk m c 1 t)
    | ⟨3, _⟩ => fun _ => one32
    | ⟨4, _⟩ => lcB (iblk m c 0 t) (iblk m c 1 t)
    | ⟨5, _⟩ => fun _ => one32
  Φ _ := Pipeline.ΦA spec0 c
  q _ := fullShare
  owed _ := 0

theorem A_eq (c : Dev nD) (w : Fin cfg0.W) : (dats m 0 c).A w = V m c (Pipeline.arrRef spec0 w) := by dsimp only [dats]
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = hcB (iblk m c 0 t) (iblk m c 1 t) := by dsimp only [dats]
theorem after4 (c : Dev nD) (t : Fin cfg0.N) : (dats m 0 c).after 4 t = lcB (iblk m c 0 t) (iblk m c 1 t) := by dsimp only [dats]

/-- The inputs' buffers hold their blocks at every point. -/
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d

/-- The windows held to a predicate: the scale arrays. -/
abbrev fgt (w : Fin cfg0.W) : Bool := match w with | ⟨3, _⟩ => true | ⟨5, _⟩ => true | _ => false

/-- The point whose row of a scale array is row `k`. -/
abbrev pt (k : Fin 16) : Fin cfg0.N := ⟨k.val, lt_of_lt_of_eq k.isLt (by decide +kernel : 16 = grid0.N)⟩

/-- The rows up to point `t`'s are the rows `f` that those points computed. -/
def upTo (f : Fin cfg0.N → FVec F S1x512 .f32) (t : Fin cfg0.N) (X : Vec F S16x512 .f32) : Prop :=
  ∀ (k : Fin 16) (q : Fin 512), k.val ≤ t.val → X (ix2 k q) = f (pt k) (ix2 0 q)

/-- The row of 8-bit scales of a point, -/
abbrev hsAt (c : Dev nD) (t : Fin cfg0.N) : FVec F S1x512 .f32 := hsB (iblk m c 0 t) (iblk m c 1 t)
/-- and that of 4-bit scales. -/
abbrev lsAt (c : Dev nD) (t : Fin cfg0.N) : FVec F S1x512 .f32 := lsB (iblk m c 0 t) (iblk m c 1 t)

/-- What is known of the scale arrays' buffers after a point. -/
def rows (c : Dev nD) (w : Fin cfg0.W) (t : Fin cfg0.N) (X : (cfg0.win w).block.Idx → Elt F (cfg0.win w).elt) : Prop :=
  match w, X with
  | ⟨3, _⟩, X => upTo (hsAt m c) t X
  | ⟨5, _⟩, X => upTo (lsAt m c) t X
  | _, _ => True

/-- The relational data of the run. -/
abbrev rdats (c : Dev nD) : RDat τ (Elt F) Unit ℕ (UR sig nD τ) ℕ cfg0 c := (dats m 0 c).toRRel fgt (rows m c)

/-- The row that a point stores is the row of its number. -/
theorem coords_val : ∀ t : Fin cfg0.N, (BitVec.ofNat 32 (grid0.coords t 0).val).toNat = t.val :=
  (by decide +kernel : ∀ t : Fin grid0.N, (BitVec.ofNat 32 (grid0.coords t 0).val).toNat = t.val)

/-- Where the stored row's entries lie. -/
theorem row_emb (t : Fin cfg0.N) (q : Fin 512) : (rowR (grid0.coords t)).emb (ix2 0 q) = ix2 ⟨t.val, t.isLt⟩ q := by
  refine funext fun a => Fin.ext ?_
  refine (Rect.emb_apply _ _ _).trans ?_
  match a with
  | ⟨0, _⟩ => show (BitVec.ofNat 32 (grid0.coords t 0).val).toNat + 1 * 0 = t.val; rw [coords_val]; omega
  | ⟨1, _⟩ => show 0 + 1 * q.val = q.val; omega

/-- No other row is touched. -/
theorem row_miss (t : Fin cfg0.N) (k : Fin 16) (q : Fin 512) (h : k.val ≠ t.val) : ix2 k q ∉ (rowR (grid0.coords t)).set := by
  intro hm
  rw [Rect.mem_set_unit] at hm
  have h0 : (BitVec.ofNat 32 (grid0.coords t 0).val).toNat ≤ k.val ∧ k.val < (BitVec.ofNat 32 (grid0.coords t 0).val).toNat + 1 := hm 0
  rw [coords_val] at h0
  omega

/-- A point's store carries the knowledge one row on. -/
theorem upTo_step (f : Fin cfg0.N → FVec F S1x512 .f32) (t : Fin cfg0.N) (Y X : Vec F S16x512 .f32)
    (hY : ∀ t' : Fin cfg0.N, t'.val + 1 = t.val → upTo f t' Y) (hX : RowSet (grid0.coords t) (f t) Y X) : upTo f t X := by
  intro k q hk
  by_cases h : k.val = t.val
  · have e : (ix2 k q : S16x512.Idx) = (rowR (grid0.coords t)).emb (ix2 0 q) := by
      rw [row_emb]; exact congrArg (fun z => ix2 z q) (Fin.ext h)
    rw [e, hX.2]
    exact congrArg (fun z => f z (ix2 0 q)) (Fin.ext h.symm)
  · rw [hX.1 _ (row_miss t k q h)]
    exact hY ⟨t.val - 1, by omega⟩ (by show t.val - 1 + 1 = t.val; omega) k q (by show k.val ≤ t.val - 1; omega)

/-- What a point finds in a scale array's buffer is what the point before left. -/
theorem finds3 (c : Dev nD) (t : Fin cfg0.N) (Y : Vec F S16x512 .f32) (h : (rdats m c).Finds 3 t Y) :
    ∀ t' : Fin cfg0.N, t'.val + 1 = t.val → upTo (hsAt m c) t' Y := by
  intro t' ht'
  have hl := ((rdats m c).finds_of_pos (w := 3) (t := t) rfl (by omega) Y).mp h
  rw [show (⟨t.val - 1, Nat.lt_of_le_of_lt (Nat.sub_le _ _) t.isLt⟩ : Fin cfg0.N) = t' from Fin.ext (by show t.val - 1 = t'.val; omega)] at hl
  rcases hl with hf | hl
  · have := (flush0_3 t').mp hf
    have h16 : cfg0.N = 16 := by decide +kernel
    have := t.isLt; omega
  · exact (dats m 0 c).toRRel_leaves rfl hl
theorem finds5 (c : Dev nD) (t : Fin cfg0.N) (Y : Vec F S16x512 .f32) (h : (rdats m c).Finds 5 t Y) :
    ∀ t' : Fin cfg0.N, t'.val + 1 = t.val → upTo (lsAt m c) t' Y := by
  intro t' ht'
  have hl := ((rdats m c).finds_of_pos (w := 5) (t := t) rfl (by omega) Y).mp h
  rw [show (⟨t.val - 1, Nat.lt_of_le_of_lt (Nat.sub_le _ _) t.isLt⟩ : Fin cfg0.N) = t' from Fin.ext (by show t.val - 1 = t'.val; omega)] at hl
  rcases hl with hf | hl
  · have := (flush0_5 t').mp hf
    have h16 : cfg0.N = 16 := by decide +kernel
    have := t.isLt; omega
  · exact (dats m 0 c).toRRel_leaves rfl hl

/-- What the body is called with at a point, -/
def qPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ Y, ⌜(rdats m c).Finds 3 t Y⌝ ∗ owns (c : Thread nD τ) (st0_3 t) fullShare Y)
    ∗ (∃ d, owns (c : Thread nD τ) (st0_4 t) fullShare ((dats m 0 c).before 4 t d))
    ∗ (∃ Y, ⌜(rdats m c).Finds 5 t Y⌝ ∗ owns (c : Thread nD τ) (st0_5 t) fullShare Y))

/-- and what it returns. -/
def qPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ (∃ X, ⌜rows m c 3 t X⌝ ∗ owns (c : Thread nD τ) (st0_3 t) fullShare X)
    ∗ owns (c : Thread nD τ) (st0_4 t) fullShare ((dats m 0 c).after 4 t)
    ∗ (∃ X, ⌜rows m c 5 t X⌝ ∗ owns (c : Thread nD τ) (st0_5 t) fullShare X))

/-- The body takes the one to the other at every point. -/
theorem qsound (c : Dev nD) (t : Fin cfg0.N) :
    qPre m c t ⊢ wp frame (wpE (defs₀ (F := F)) Variants.none c none) Set.univ (bodyAt0 t) (fun _ => qPost m c t) := by
  unfold qPre qPost bodyAt0
  simp only [before0, before1]
  rw [show (dats m 0 c).Φ t.succ = (dats m 0 c).Φ t.castSucc from rfl,
    show (dats m 0 c).owesAt () t.succ = (dats m 0 c).owesAt () t.castSucc from rfl, after0, after1, after2, after4]
  iintro ⟨HP, Ho, ⟨%d0, H0⟩, ⟨%d1, H1⟩, ⟨%d2, H2⟩, ⟨%y3, %hy3, H3⟩, ⟨%d4, H4⟩, ⟨%y5, %hy5, H5⟩⟩
  iapply (sound_quant c Set.univ (grid0.coords t) _ _ _ _ _ _ _ _ _ _ _ _ (iblk m c 0 t) (iblk m c 1 t) _ y3 _ y5 _)
  isplitl [H0]; · iexact H0
  isplitl [H1]; · iexact H1
  isplitl [H2]; · iexact H2
  isplitl [H3]; · iexact H3
  isplitl [H4]; · iexact H4
  isplitl [H5]; · iexact H5
  iintro ⟨H0, H1, H2, ⟨%x3, %hx3, H3⟩, H4, ⟨%x5, %hx5, H5⟩⟩
  isplitl [HP]; · iexact HP
  isplitl [Ho]; · iexact Ho
  isplitl [H0]; · iexact H0
  isplitl [H1]; · iexact H1
  isplitl [H2]; · iexact H2
  isplitl [H3]
  · iexists x3; isplitr; · ipureintro; exact upTo_step (hsAt m c) t y3 x3 (finds3 m c t y3 hy3) hx3
    iexact H3
  isplitl [H4]; · iexact H4
  iexists x5; isplitr; · ipureintro; exact upTo_step (lsAt m c) t y5 x5 (finds5 m c t y5 hy5) hx5
  iexact H5

/-- The body table's row at point `t`'s slots is the body at that point. -/
theorem defs₀_row (t : Fin cfg0.N) :
    defs₀ (F := F) .tc cfg0.body (cfg0.bodyArgs t (cfg0.slots t)) = bodyAt0 t := by
  unfold defs₀; rw [Defs.onTc_tc]

/-- The library's body obligation. -/
theorem qobligation (c : Dev nD) : BodyObligationRel (dats m 0 c) (defs₀ (F := F)) Variants.none () Set.univ fgt (rows m c) := fun t => by
  rw [bigSep_W0, bigSep_W0, defs₀_row]
  exact triple_restated (qsound m c t) rfl .rfl fun _ => .rfl

set_option backward.isDefEq.respectTransparency.types false in
set_option maxHeartbeats 800000 in
/-- The run: every array may hold what the data allow, and every counter ends at zero. -/
theorem qrun : θ_run defs (onTc (τ := τ) (main (F := F))) (s₀ m ρ)
    (fun r => RDat.FramePost cfg0 (rdats m) (V m) r ∧ r.2.sem = fun _ => 0) :=
  Pipeline.RDat.θ_run_frame (Q' := _) cfgs (0 : Fin 1) launch0 defs₀ Variants.none (rdats m) m ρ main
    (hbody := fun c => (qobligation m c).toRRel) (hshare := fun c => (dats m 0 c).share_full fun _ => rfl)
    (howed := fun _ _ => rfl) (V := V m) (hmain := hmain m Variants.none) (hA := A_eq m) (hΦ := fun _ _ => rfl)

/-- THE FRAME: the arguments end unchanged and every semaphore counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0) :=
  (θ_run defs _ _).mono (fun r h => ⟨fun c =>
    ⟨((h.1 c).2 main_arg0 (Pipeline.mem_restRefs_of main_arg0 (by decide) (by decide))).trans (V_main_arg0 m c),
      ((RDat.FramePost.arr_in h.1 c 1 rfl).trans (A_eq m c 1)).trans (V_main_arg1 m c)⟩, h.2⟩) (qrun m ρ)

end Cert.Rotate.Hand

end
-- ==== Proof.RBody.lean ====
/-
  The quantising call's body, run once at a grid point.

  From the six current staging buffers, the body leaves the two inputs as they were, the two blocks of integer codes at
  the skeleton's payloads of the inputs, and, in each of the two scale arrays, ONE row (the point's) at the payload
  and every other row as it was.
-/
module

public import proofs.«01_k».proof.Proof.Gen.RotateIdeal.Skeleton
public import proofs.«01_k».proof.Proof.Gen.RotateIdeal.Launch
public import proofs.«01_k».proof.Proof.Gen.RotateIdeal.Points
public import Idealize.ShloMosaic.Lib.Pipeline.Frame
public import Idealize.ShloMosaic.Lib.Pipeline.Value
public import Idealize.ShloMosaic.Lib.VecWindow
public import Idealize.ShloMosaic.Lib.Tactic

@[expose] public section

set_option maxRecDepth 16384

noncomputable section

namespace Cert.RotateIdeal.Hand

open Cert.RotateIdeal Cert.RotateIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

/-- The literal one that the body hands from its first part to its second. -/
abbrev one32 : F .f32 := Scalar.ofBits .f32 0x3F800000#32

/-- The block of 8-bit codes that the body stores, from a block of rows of `x` and the whole of `u`. -/
def hcB (x : Vec F S512x2880 .bf16) (u : Vec F S2880x2880 .bf16) : IVec S512x360 8 := k0_pay2 (k0_pay9 x u)
/-- The block of 4-bit codes. -/
def lcB (x : Vec F S512x2880 .bf16) (u : Vec F S2880x2880 .bf16) : IVec S512x2520 8 :=
  k0_pay3 (k0_pay10 x u) (k0_pay12 x u) (k0_pay13 x u) one32
/-- The row of 8-bit scales. -/
def hsB (x : Vec F S512x2880 .bf16) (u : Vec F S2880x2880 .bf16) : FVec F S1x512 .f32 := k0_pay4 (k0_pay8 x u)
/-- The row of 4-bit scales. -/
def lsB (x : Vec F S512x2880 .bf16) (u : Vec F S2880x2880 .bf16) : FVec F S1x512 .f32 :=
  k0_pay5 (k0_pay12 x u) (k0_pay13 x u) one32

/-- The row of a scale array that the point at coordinates `i` stores. -/
abbrev rowR (i : grid0.Coords) : Rect S16x512 := Rect.unit (s := S16x512) (k0_off1 i) S1x512.size (k0_off1_inb i)

/-- `X` is `Y` with the point's row replaced by `r`. -/
def RowSet (i : grid0.Coords) (r : FVec F S1x512 .f32) (Y X : Vec F S16x512 .f32) : Prop :=
  (∀ y, y ∉ (rowR i).set → X y = Y y) ∧ ∀ x : S1x512.Idx, X ((rowR i).emb x) = r x

/-- A scale array's buffer after ONE store of a row over contents `f`, as the assertion the body's triple makes of it. -/
theorem row_close (c : Dev nD) (i : grid0.Coords) (M : Memref sig .tc .vmem S16x512 .f32) (f : M.view.ty.Contents (Elt F))
    (p r : FVec F S1x512 .f32) (hp : p = r) (Y : Vec F S16x512 .f32) (hY : M.view.read (Elt F) f = Y) :
    (M.view.loc (c : Thread nD τ) ↦[M.view.set]{fullShare} M.view.writes (Elt F) f [⟨rowR i, p⟩] : sProp 𝕄)
      ⊢ iprop(∃ X, ⌜RowSet i r Y X⌝ ∗ owns (c : Thread nD τ) M fullShare X) := by
  subst hp hY
  unfold owns
  iintro H
  iexists M.view.read (Elt F) (M.view.writes (Elt F) f [⟨rowR i, p⟩])
  isplitr
  · ipureintro
    exact ⟨fun y hy => View.read_writes_cons_miss _ f ⟨rowR i, p⟩ [] y hy, fun x => View.read_writes_cons_emb _ f (rowR i) p [] x⟩
  iexists _; isplitr
  swap; · iexact H
  ipureintro; rfl

set_option maxHeartbeats 1000000 in
/-- The body's triple. -/
theorem sound_quant (c : Dev nD) (E : Set ℕ) (i : grid0.Coords)
    (arg1 : Memref sig .tc .vmem S512x2880 .bf16) (harg1 : arg1.IsWhole) (arg2 : Memref sig .tc .vmem S2880x2880 .bf16) (harg2 : arg2.IsWhole)
    (arg3 : Memref sig .tc .vmem S512x360 .i8) (harg3 : arg3.IsWhole) (arg4 : Memref sig .tc .vmem S16x512 .f32) (harg4 : arg4.IsWhole)
    (arg5 : Memref sig .tc .vmem S512x2520 .i8) (harg5 : arg5.IsWhole) (arg6 : Memref sig .tc .vmem S16x512 .f32) (harg6 : arg6.IsWhole)
    (x1 : Vec F S512x2880 .bf16) (x2 : Vec F S2880x2880 .bf16) (x3 : Vec F S512x360 .i8) (x4 : Vec F S16x512 .f32)
    (x5 : Vec F S512x2520 .i8) (x6 : Vec F S16x512 .f32) (K : PUnit → sProp 𝕄) :
    iprop(owns (c : Thread nD τ) arg1 fullShare x1 ∗ owns (c : Thread nD τ) arg2 fullShare x2 ∗ owns (c : Thread nD τ) arg3 fullShare x3
        ∗ owns (c : Thread nD τ) arg4 fullShare x4 ∗ owns (c : Thread nD τ) arg5 fullShare x5 ∗ owns (c : Thread nD τ) arg6 fullShare x6
        ∗ (iprop(owns (c : Thread nD τ) arg1 fullShare x1 ∗ owns (c : Thread nD τ) arg2 fullShare x2
            ∗ owns (c : Thread nD τ) arg3 fullShare (hcB x1 x2)
            ∗ (∃ X, ⌜RowSet i (hsB x1 x2) x4 X⌝ ∗ owns (c : Thread nD τ) arg4 fullShare X)
            ∗ owns (c : Thread nD τ) arg5 fullShare (lcB x1 x2)
            ∗ (∃ X, ⌜RowSet i (lsB x1 x2) x6 X⌝ ∗ owns (c : Thread nD τ) arg6 fullShare X)) -∗ K ⟨⟩))
      ⊢ wp frame (wpE (defs₀ (F := F)) Variants.none c none) E (cc0_rotate_quant i arg1 harg1 arg2 harg2 arg3 harg3 arg4 harg4 arg5 harg5 arg6 harg6) K := by
  simp only [cc0_rotate_quant_eq_skeleton]; unfold cc0_rotate_quant_skel
  simp only [k0_part1_eq_skeleton]
  unfold owns
  iintro ⟨⟨%f1, %hf1, H1⟩, ⟨%f2, %hf2, H2⟩, ⟨%f3, -, H3⟩, ⟨%f4, %hf4, H4⟩, ⟨%f5, -, H5⟩, ⟨%f6, %hf6, H6⟩, Hk⟩
  sl_exec
  sl_step
  have e1 : View.ld (arg1.view.read (Elt F) f1) (Rect.unit (s := S512x2880) ![0, 0] S512x2880.size inb_S512x2880_S512x2880_0_0) = x1 := by
    rw [hf1]; exact View.ld_unit_zero (by funext a; fin_cases a <;> rfl) _ x1
  have e2 : View.ld (arg2.view.read (Elt F) f2) (Rect.unit (s := S2880x2880) ![0, 0] S2880x2880.size inb_S2880x2880_S2880x2880_0_0) = x2 := by
    rw [hf2]; exact View.ld_unit_zero (by funext a; fin_cases a <;> rfl) _ x2
  iapply Hk
  isplitl [H1]
  · iexists f1; isplitr; · ipureintro; exact hf1
    iexact H1
  isplitl [H2]
  · iexists f2; isplitr; · ipureintro; exact hf2
    iexact H2
  isplitl [H3]
  · iexists _; isplitr
    swap; · iexact H3
    ipureintro
    refine (View.read_writes_eq_canon _ _ _ (View.cover_of_tiled _ S512x360.size (by rfl))).trans ?_
    refine (View.canon_unit_zero (by funext a; fin_cases a <;> rfl) _ _).trans ?_
    exact congrArg₂ hcB e1 e2
  isplitl [H4]
  · iapply (row_close c i arg4 f4 _ _ (congrArg₂ hsB e1 e2) x4 hf4); iexact H4
  isplitl [H5]
  · iexists _; isplitr
    swap; · iexact H5
    ipureintro
    refine (View.read_writes_eq_canon _ _ _ (View.cover_of_tiled _ S512x2520.size (by rfl))).trans ?_
    refine (View.canon_unit_zero (by funext a; fin_cases a <;> rfl) _ _).trans ?_
    exact congrArg₂ lcB e1 e2
  iapply (row_close c i arg6 f6 _ _ (congrArg₂ lsB e1 e2) x6 hf6); iexact H6

end Cert.RotateIdeal.Hand

end
-- ==== Proof.RRun.lean ====
/-
  The quantising call's run.

  The two inputs and the two arrays of codes are held to exact contents. Of each scale array, which stays in its buffer
  over the whole grid and of which a point stores its own row, it is known after a point that the rows up to the point's
  are the rows those points computed; nothing is known of the later rows. At the last point every row is known, and that
  is the only point whose buffer is written back.
-/
module

public import proofs.«01_k».proof.Proof.RBody
public import proofs.«01_k».proof.Proof.Gen.RotateIdeal.Frame
public import Idealize.ShloMosaic.Lib.Pipeline.DatRel
public import Idealize.ShloMosaic.Lib.Pipeline.ArrRel
public import Idealize.ShloMosaic.Lib.ValueIdx

@[expose] public section

set_option maxRecDepth 16384

noncomputable section

namespace Cert.RotateIdeal.Hand

open Cert.RotateIdeal Cert.RotateIdeal.Gen

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligationRel cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The exact part of the proof data; the scale arrays' entries are placeholders, of which `rows` speaks instead. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => hcB (iblk m c 0 t) (iblk m c 1 t)
    | ⟨3, _⟩ => fun _ => one32
    | ⟨4, _⟩ => lcB (iblk m c 0 t) (iblk m c 1 t)
    | ⟨5, _⟩ => fun _ => one32
  Φ _ := Pipeline.ΦA spec0 c
  q _ := fullShare
  owed _ := 0

theorem A_eq (c : Dev nD) (w : Fin cfg0.W) : (dats m 0 c).A w = V m c (Pipeline.arrRef spec0 w) := by dsimp only [dats]
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = hcB (iblk m c 0 t) (iblk m c 1 t) := by dsimp only [dats]
theorem after4 (c : Dev nD) (t : Fin cfg0.N) : (dats m 0 c).after 4 t = lcB (iblk m c 0 t) (iblk m c 1 t) := by dsimp only [dats]

/-- The inputs' buffers hold their blocks at every point. -/
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d

/-- The windows held to a predicate: the scale arrays. -/
abbrev fgt (w : Fin cfg0.W) : Bool := match w with | ⟨3, _⟩ => true | ⟨5, _⟩ => true | _ => false

/-- The point whose row of a scale array is row `k`. -/
abbrev pt (k : Fin 16) : Fin cfg0.N := ⟨k.val, lt_of_lt_of_eq k.isLt (by decide +kernel : 16 = grid0.N)⟩

/-- The rows up to point `t`'s are the rows `f` that those points computed. -/
def upTo (f : Fin cfg0.N → FVec F S1x512 .f32) (t : Fin cfg0.N) (X : Vec F S16x512 .f32) : Prop :=
  ∀ (k : Fin 16) (q : Fin 512), k.val ≤ t.val → X (ix2 k q) = f (pt k) (ix2 0 q)

/-- The row of 8-bit scales of a point, -/
abbrev hsAt (c : Dev nD) (t : Fin cfg0.N) : FVec F S1x512 .f32 := hsB (iblk m c 0 t) (iblk m c 1 t)
/-- and that of 4-bit scales. -/
abbrev lsAt (c : Dev nD) (t : Fin cfg0.N) : FVec F S1x512 .f32 := lsB (iblk m c 0 t) (iblk m c 1 t)

/-- What is known of the scale arrays' buffers after a point. -/
def rows (c : Dev nD) (w : Fin cfg0.W) (t : Fin cfg0.N) (X : (cfg0.win w).block.Idx → Elt F (cfg0.win w).elt) : Prop :=
  match w, X with
  | ⟨3, _⟩, X => upTo (hsAt m c) t X
  | ⟨5, _⟩, X => upTo (lsAt m c) t X
  | _, _ => True

/-- The relational data of the run. -/
abbrev rdats (c : Dev nD) : RDat τ (Elt F) Unit ℕ (UR sig nD τ) ℕ cfg0 c := (dats m 0 c).toRRel fgt (rows m c)

/-- The row that a point stores is the row of its number. -/
theorem coords_val : ∀ t : Fin cfg0.N, (BitVec.ofNat 32 (grid0.coords t 0).val).toNat = t.val :=
  (by decide +kernel : ∀ t : Fin grid0.N, (BitVec.ofNat 32 (grid0.coords t 0).val).toNat = t.val)

/-- Where the stored row's entries lie. -/
theorem row_emb (t : Fin cfg0.N) (q : Fin 512) : (rowR (grid0.coords t)).emb (ix2 0 q) = ix2 ⟨t.val, t.isLt⟩ q := by
  refine funext fun a => Fin.ext ?_
  refine (Rect.emb_apply _ _ _).trans ?_
  match a with
  | ⟨0, _⟩ => show (BitVec.ofNat 32 (grid0.coords t 0).val).toNat + 1 * 0 = t.val; rw [coords_val]; omega
  | ⟨1, _⟩ => show 0 + 1 * q.val = q.val; omega

/-- No other row is touched. -/
theorem row_miss (t : Fin cfg0.N) (k : Fin 16) (q : Fin 512) (h : k.val ≠ t.val) : ix2 k q ∉ (rowR (grid0.coords t)).set := by
  intro hm
  rw [Rect.mem_set_unit] at hm
  have h0 : (BitVec.ofNat 32 (grid0.coords t 0).val).toNat ≤ k.val ∧ k.val < (BitVec.ofNat 32 (grid0.coords t 0).val).toNat + 1 := hm 0
  rw [coords_val] at h0
  omega

/-- A point's store carries the knowledge one row on. -/
theorem upTo_step (f : Fin cfg0.N → FVec F S1x512 .f32) (t : Fin cfg0.N) (Y X : Vec F S16x512 .f32)
    (hY : ∀ t' : Fin cfg0.N, t'.val + 1 = t.val → upTo f t' Y) (hX : RowSet (grid0.coords t) (f t) Y X) : upTo f t X := by
  intro k q hk
  by_cases h : k.val = t.val
  · have e : (ix2 k q : S16x512.Idx) = (rowR (grid0.coords t)).emb (ix2 0 q) := by
      rw [row_emb]; exact congrArg (fun z => ix2 z q) (Fin.ext h)
    rw [e, hX.2]
    exact congrArg (fun z => f z (ix2 0 q)) (Fin.ext h.symm)
  · rw [hX.1 _ (row_miss t k q h)]
    exact hY ⟨t.val - 1, by omega⟩ (by show t.val - 1 + 1 = t.val; omega) k q (by show k.val ≤ t.val - 1; omega)

/-- What a point finds in a scale array's buffer is what the point before left. -/
theorem finds3 (c : Dev nD) (t : Fin cfg0.N) (Y : Vec F S16x512 .f32) (h : (rdats m c).Finds 3 t Y) :
    ∀ t' : Fin cfg0.N, t'.val + 1 = t.val → upTo (hsAt m c) t' Y := by
  intro t' ht'
  have hl := ((rdats m c).finds_of_pos (w := 3) (t := t) rfl (by omega) Y).mp h
  rw [show (⟨t.val - 1, Nat.lt_of_le_of_lt (Nat.sub_le _ _) t.isLt⟩ : Fin cfg0.N) = t' from Fin.ext (by show t.val - 1 = t'.val; omega)] at hl
  rcases hl with hf | hl
  · have := (flush0_3 t').mp hf
    have h16 : cfg0.N = 16 := by decide +kernel
    have := t.isLt; omega
  · exact (dats m 0 c).toRRel_leaves rfl hl
theorem finds5 (c : Dev nD) (t : Fin cfg0.N) (Y : Vec F S16x512 .f32) (h : (rdats m c).Finds 5 t Y) :
    ∀ t' : Fin cfg0.N, t'.val + 1 = t.val → upTo (lsAt m c) t' Y := by
  intro t' ht'
  have hl := ((rdats m c).finds_of_pos (w := 5) (t := t) rfl (by omega) Y).mp h
  rw [show (⟨t.val - 1, Nat.lt_of_le_of_lt (Nat.sub_le _ _) t.isLt⟩ : Fin cfg0.N) = t' from Fin.ext (by show t.val - 1 = t'.val; omega)] at hl
  rcases hl with hf | hl
  · have := (flush0_5 t').mp hf
    have h16 : cfg0.N = 16 := by decide +kernel
    have := t.isLt; omega
  · exact (dats m 0 c).toRRel_leaves rfl hl

/-- What the body is called with at a point, -/
def qPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ Y, ⌜(rdats m c).Finds 3 t Y⌝ ∗ owns (c : Thread nD τ) (st0_3 t) fullShare Y)
    ∗ (∃ d, owns (c : Thread nD τ) (st0_4 t) fullShare ((dats m 0 c).before 4 t d))
    ∗ (∃ Y, ⌜(rdats m c).Finds 5 t Y⌝ ∗ owns (c : Thread nD τ) (st0_5 t) fullShare Y))

/-- and what it returns. -/
def qPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ (∃ X, ⌜rows m c 3 t X⌝ ∗ owns (c : Thread nD τ) (st0_3 t) fullShare X)
    ∗ owns (c : Thread nD τ) (st0_4 t) fullShare ((dats m 0 c).after 4 t)
    ∗ (∃ X, ⌜rows m c 5 t X⌝ ∗ owns (c : Thread nD τ) (st0_5 t) fullShare X))

/-- The body takes the one to the other at every point. -/
theorem qsound (c : Dev nD) (t : Fin cfg0.N) :
    qPre m c t ⊢ wp frame (wpE (defs₀ (F := F)) Variants.none c none) Set.univ (bodyAt0 t) (fun _ => qPost m c t) := by
  unfold qPre qPost bodyAt0
  simp only [before0, before1]
  rw [show (dats m 0 c).Φ t.succ = (dats m 0 c).Φ t.castSucc from rfl,
    show (dats m 0 c).owesAt () t.succ = (dats m 0 c).owesAt () t.castSucc from rfl, after0, after1, after2, after4]
  iintro ⟨HP, Ho, ⟨%d0, H0⟩, ⟨%d1, H1⟩, ⟨%d2, H2⟩, ⟨%y3, %hy3, H3⟩, ⟨%d4, H4⟩, ⟨%y5, %hy5, H5⟩⟩
  iapply (sound_quant c Set.univ (grid0.coords t) _ _ _ _ _ _ _ _ _ _ _ _ (iblk m c 0 t) (iblk m c 1 t) _ y3 _ y5 _)
  isplitl [H0]; · iexact H0
  isplitl [H1]; · iexact H1
  isplitl [H2]; · iexact H2
  isplitl [H3]; · iexact H3
  isplitl [H4]; · iexact H4
  isplitl [H5]; · iexact H5
  iintro ⟨H0, H1, H2, ⟨%x3, %hx3, H3⟩, H4, ⟨%x5, %hx5, H5⟩⟩
  isplitl [HP]; · iexact HP
  isplitl [Ho]; · iexact Ho
  isplitl [H0]; · iexact H0
  isplitl [H1]; · iexact H1
  isplitl [H2]; · iexact H2
  isplitl [H3]
  · iexists x3; isplitr; · ipureintro; exact upTo_step (hsAt m c) t y3 x3 (finds3 m c t y3 hy3) hx3
    iexact H3
  isplitl [H4]; · iexact H4
  iexists x5; isplitr; · ipureintro; exact upTo_step (lsAt m c) t y5 x5 (finds5 m c t y5 hy5) hx5
  iexact H5

/-- The body table's row at point `t`'s slots is the body at that point. -/
theorem defs₀_row (t : Fin cfg0.N) :
    defs₀ (F := F) .tc cfg0.body (cfg0.bodyArgs t (cfg0.slots t)) = bodyAt0 t := by
  unfold defs₀; rw [Defs.onTc_tc]

/-- The library's body obligation. -/
theorem qobligation (c : Dev nD) : BodyObligationRel (dats m 0 c) (defs₀ (F := F)) Variants.none () Set.univ fgt (rows m c) := fun t => by
  rw [bigSep_W0, bigSep_W0, defs₀_row]
  exact triple_restated (qsound m c t) rfl .rfl fun _ => .rfl

set_option backward.isDefEq.respectTransparency.types false in
set_option maxHeartbeats 800000 in
/-- The run: every array may hold what the data allow, and every counter ends at zero. -/
theorem qrun : θ_run defs (onTc (τ := τ) (main (F := F))) (s₀ m ρ)
    (fun r => RDat.FramePost cfg0 (rdats m) (V m) r ∧ r.2.sem = fun _ => 0) :=
  Pipeline.RDat.θ_run_frame (Q' := _) cfgs (0 : Fin 1) launch0 defs₀ Variants.none (rdats m) m ρ main
    (hbody := fun c => (qobligation m c).toRRel) (hshare := fun c => (dats m 0 c).share_full fun _ => rfl)
    (howed := fun _ _ => rfl) (V := V m) (hmain := hmain m Variants.none) (hA := A_eq m) (hΦ := fun _ _ => rfl)

/-- THE FRAME: the arguments end unchanged and every semaphore counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0) :=
  (θ_run defs _ _).mono (fun r h => ⟨fun c =>
    ⟨((h.1 c).2 main_arg0 (Pipeline.mem_restRefs_of main_arg0 (by decide) (by decide))).trans (V_main_arg0 m c),
      ((RDat.FramePost.arr_in h.1 c 1 rfl).trans (A_eq m c 1)).trans (V_main_arg1 m c)⟩, h.2⟩) (qrun m ρ)

end Cert.RotateIdeal.Hand

end
-- ==== Proof.RSpec.lean ====
/-
  The quantised rotation of one row as plain mathematics: what both programs of the quantising call are shown to compute.
-/
module

public import Idealize.ShloMosaic.PureOps.Ideal.Laws
public import Idealize.ShloMosaic.Lib.MatmulPlain
public import Idealize.ShloMosaic.Lib.Pipeline.Value

@[expose] public section

noncomputable section

namespace Cert.Rot

open Idealize.ShloMosaic Idealize.ShloMosaic.ValueIdx

/-- The number a 32-bit float literal stands for. -/
abbrev word (b : BitVec 32) : Ideal .f32 := Scalar.ofBits .f32 b

/-- One over the root of a row's mean square, with 1e-6 added to the mean (the literals are 2880 and 1e-6). -/
def rms (x : Fin 2880 → Ideal .f32) : Ideal .f32 :=
  FloatOps.rsqrt (FloatOps.addf (FloatOps.divf (∑ j, x j * x j : EReal) (word 0x45340000#32)) (word 0x358637BD#32))

/-- The normalised row times one column of the rotation. -/
def rot (x u : Fin 2880 → Ideal .f32) : Ideal .f32 := (∑ k, (x k * rms x) * u k : EReal)

/-- The row's first 360 rotated entries, -/
def high (x : Fin 2880 → Ideal .f32) (u : Fin 2880 → Fin 2880 → Ideal .f32) (k : Fin 360) : Ideal .f32 := rot x fun j => u j ⟨k, by omega⟩
/-- and the other 2520. -/
def low (x : Fin 2880 → Ideal .f32) (u : Fin 2880 → Fin 2880 → Ideal .f32) (k : Fin 2520) : Ideal .f32 := rot x fun j => u j ⟨360 + k, by omega⟩

/-- The largest magnitude of a row's entries (from minus infinity). -/
def largest {n : Nat} (v : Fin n → Ideal .f32) : Ideal .f32 :=
  (Finset.univ : Finset (Fin n)).fold max (word 0xFF800000#32 : EReal) fun k => (FloatOps.absf (v k) : Ideal .f32)

/-- The scale that brings the magnitude `a` to the largest code `q`: `a / q`, or one if `a` is zero. -/
def scale (q a : Ideal .f32) : Ideal .f32 :=
  Scalar.select (FloatOps.cmpf .oeq a (word 0x00000000#32)) (word 0x3F800000#32) (FloatOps.divf a q)

/-- The code of `v` under the scale `s`: `v / s` rounded to even, held between `p` and `q`. -/
def code (p q v s : Ideal .f32) : BitVec 8 :=
  FloatOps.fptosi 8 (FloatOps.minimumf q (FloatOps.maximumf p (FloatOps.roundeven (FloatOps.divf v s))))

variable (x : Fin 2880 → Ideal .f32) (u : Fin 2880 → Fin 2880 → Ideal .f32)

/-- The 8-bit scale and codes of a row (127 the largest code), -/
def hScale : Ideal .f32 := scale (word 0x42FE0000#32) (largest (high x u))
def hCode (k : Fin 360) : BitVec 8 := code (word 0xC2FE0000#32) (word 0x42FE0000#32) (high x u k) (hScale x u)
/-- and the 4-bit ones (7 the largest code). -/
def lScale : Ideal .f32 := scale (word 0x40E00000#32) (largest (low x u))
def lCode (k : Fin 2520) : BitVec 8 := code (word 0xC0E00000#32) (word 0x40E00000#32) (low x u k) (lScale x u)

/-! The elementwise chains at an entry, over any shape. -/

section
variable {S : Shape}

theorem code_at (p q : Ideal .f32) (v s : FVec Ideal S .f32) (i : S.Idx) :
    fptosi 8 (minimumf (broadcast S q) (maximumf (broadcast S p) (roundeven (divf v s)))) i = code p q (v i) (s i) := rfl
theorem scale_at (q : Ideal .f32) (a : FVec Ideal S .f32) (i : S.Idx) :
    select (cmpf .oeq a (broadcast S (word 0x00000000#32))) (broadcast S (word 0x3F800000#32)) (divf a (broadcast S q)) i = scale q (a i) := rfl
theorem rms_at (n e : Ideal .f32) (a : FVec Ideal S .f32) (i : S.Idx) :
    rsqrt (addf (divf a (broadcast S n)) (broadcast S e)) i = FloatOps.rsqrt (FloatOps.addf (FloatOps.divf (a i) n) e) := rfl
theorem mul_at (a b : FVec Ideal S .f32) (h) (i : S.Idx) : (truncf .bf16 (mulf a b) h i : EReal) = (a i * b i : EReal) := rfl

end

/-! Rows of a matrix of any height. -/

variable {M K : Nat}

/-- A row's sum. -/
theorem sum_row (v : FVec Ideal ⟨2, ![M, K]⟩ .f32) (acc : BitVec 32) (h : Shape.Reduces ⟨2, ![M, K]⟩ [1] ⟨1, ![M]⟩) (hφ : FKind.Formats .f32)
    (hacc : acc = FKind.add.neutral .f32 hφ) (r : Fin M) :
    multiReduction .add [1] ⟨1, ![M]⟩ v acc h hφ hacc (ix1 r) = ∑ k, v (ix2 r k) := by
  refine (Ideal.multiReduction_add_single v acc h hφ hacc (ix1 r)).trans (Finset.sum_congr rfl fun k _ => congrArg v ?_)
  funext a; apply Fin.ext
  match a with | ⟨0, _⟩ => rfl | ⟨1, _⟩ => rfl

/-- A row's largest magnitude. -/
theorem max_row (v : FVec Ideal ⟨2, ![M, K]⟩ .f32) (h : Shape.Reduces ⟨2, ![M, K]⟩ [1] ⟨1, ![M]⟩) (hφ : FKind.Formats .f32)
    (hacc : 0xFF800000#32 = FKind.maximumf.neutral .f32 hφ) (r : Fin M) :
    multiReduction .maximumf [1] ⟨1, ![M]⟩ (absf v) 0xFF800000#32 h hφ hacc (ix1 r) = largest fun k => v (ix2 r k) := by
  refine (Ideal.multiReduction_maximumf_single (absf v) 0xFF800000#32 h hφ hacc (ix1 r)).trans ?_
  refine congrArg ((Finset.univ : Finset (Fin K)).fold max (word 0xFF800000#32 : EReal)) (funext fun k => ?_)
  refine congrArg (fun i => (FloatOps.absf (v i) : Ideal .f32)) ?_
  funext a; apply Fin.ext
  match a with | ⟨0, _⟩ => rfl | ⟨1, _⟩ => rfl

/-- A vector stood up as a column. -/
theorem to_col {α : Type} (v : (⟨1, ![M]⟩ : Shape).Idx → α) (h : Shape.ShapeCasts ⟨1, ![M]⟩ ⟨2, ![M, 1]⟩) (r : Fin M) :
    shapeCast ⟨2, ![M, 1]⟩ v h (ix2 r 0) = v (ix1 r) := by
  refine shapeCast_apply _ _ _ _ ?_
  rw [Shape.rowMajor_val_one, Shape.rowMajor_val_two]
  show r.val = r.val * 1 + 0
  omega

/-- A column repeated along every row. -/
theorem rep_col {α : Type} (v : (⟨2, ![M, 1]⟩ : Shape).Idx → α) (h : Shape.Broadcasts ⟨2, ![M, 1]⟩ ⟨2, ![M, K]⟩) (hM : M ≠ 1) (r : Fin M) (k : Fin K) :
    broadcastTo ⟨2, ![M, K]⟩ v h (ix2 r k) = v (ix2 r 0) := by
  refine broadcastTo_apply _ _ _ _ fun a => ?_
  match a with
  | ⟨0, _⟩ => show r.val = if M = 1 then 0 else r.val; rw [if_neg hM]
  | ⟨1, _⟩ => rfl

end Cert.Rot

end
-- ==== Proof.RVal.lean ====
/-
  What the quantising call's body leaves at a point, entry by entry over the extended reals.
-/
module

public import proofs.«01_k».proof.Proof.RBody
public import proofs.«01_k».proof.Proof.RSpec

@[expose] public section

set_option maxRecDepth 16384

noncomputable section

namespace Cert.RotateIdeal.Hand

open Cert.RotateIdeal Cert.RotateIdeal.Gen Cert.Rot
open Idealize.ShloMosaic Idealize.ShloMosaic.TcCoe Idealize.ShloMosaic.ValueIdx

variable (x : Vec Ideal S512x2880 .bf16) (u : Vec Ideal S2880x2880 .bf16)

/-- The word of zero is the number zero. -/
theorem zero_word : (FloatOps.ofBits .f32 0x00000000#32 : Ideal .f32) = 0 := by
  simp

/-- A row of the block and the rotation, as functions of plain indices. -/
abbrev xr (r : Fin 512) (k : Fin 2880) : Ideal .f32 := x (ix2 r k)
abbrev um (k n : Fin 2880) : Ideal .f32 := u (ix2 k n)

/-- The rotated block. -/
theorem pay6_apply (r : Fin 512) (n : Fin 2880) : k0_pay6 x u (ix2 r n) = rot (xr x r) fun k => um u k n := by
  unfold k0_pay6
  refine (Ideal.matmul_plain_apply (M := 512) (K := 2880) (N := 2880) none _ _ (constant S512x2880 .f32 0x00000000#32) r n).trans ?_
  rw [show constant (F := Ideal) S512x2880 .f32 0x00000000#32 (ix2 r n) = 0 from zero_word, zero_add]
  refine Finset.sum_congr rfl fun k _ => congrArg (· * u (ix2 k n)) ?_
  rw [shapeCast_self]
  refine congrArg (x (ix2 r k) * ·) ?_
  refine (rep_col (M := 512) (K := 2880) _ _ (by decide) r k).trans ?_
  refine congrArg (fun z : Ideal .f32 => FloatOps.rsqrt (FloatOps.addf (FloatOps.divf z (word 0x45340000#32)) (word 0x358637BD#32))) ?_
  exact (to_col (M := 512) _ _ r).trans (sum_row (M := 512) (K := 2880) _ _ _ _ _ r)

/-- Its first columns, -/
theorem pay7_apply (r : Fin 512) (k : Fin 360) : k0_pay7 x u (ix2 r k) = high (xr x r) (um u) k := by
  unfold k0_pay7
  refine (extractStridedSlice_apply _ _ _ _ (ix2 r ⟨k, by omega⟩) fun a => ?_).trans (pay6_apply x u r ⟨k, by omega⟩)
  match a with
  | ⟨0, _⟩ => show r.val = 0 + r.val; omega
  | ⟨1, _⟩ => show k.val = 0 + k.val; omega

/-- and the others. -/
theorem pay10_apply (r : Fin 512) (k : Fin 2520) : k0_pay10 x u (ix2 r k) = low (xr x r) (um u) k := by
  unfold k0_pay10
  refine (extractStridedSlice_apply _ _ _ _ (ix2 r ⟨360 + k, by omega⟩) fun a => ?_).trans (pay6_apply x u r ⟨360 + k, by omega⟩)
  match a with
  | ⟨0, _⟩ => show r.val = 0 + r.val; omega
  | ⟨1, _⟩ => rfl

/-- The largest magnitudes as columns. -/
theorem hmax_apply (r : Fin 512) :
    shapeCast S512x1 (multiReduction .maximumf [1] S512 (absf (k0_pay7 x u)) 0xFF800000#32 reduces_S512x360_S512 (.inl rfl) rfl) shapeCasts_S512_S512x1 (ix2 r 0) =
      largest (high (xr x r) (um u)) :=
  (to_col (M := 512) _ shapeCasts_S512_S512x1 r).trans ((max_row (M := 512) (K := 360) (k0_pay7 x u) reduces_S512x360_S512 (.inl rfl) rfl r).trans
    (congrArg largest (funext fun k => pay7_apply x u r k)))
theorem lmax_apply (r : Fin 512) : k0_pay11 x u (ix2 r 0) = largest (low (xr x r) (um u)) := by
  unfold k0_pay11
  exact (to_col (M := 512) _ shapeCasts_S512_S512x1 r).trans ((max_row (M := 512) (K := 2520) (k0_pay10 x u) reduces_S512x2520_S512 (.inl rfl) rfl r).trans
    (congrArg largest (funext fun k => pay10_apply x u r k)))

/-- The 8-bit scales as a column, -/
theorem pay8_apply (r : Fin 512) : k0_pay8 x u (ix2 r 0) = hScale (xr x r) (um u) := by
  unfold k0_pay8
  exact (scale_at (word 0x42FE0000#32) _ (ix2 r 0)).trans (congrArg (scale (word 0x42FE0000#32)) (hmax_apply x u r))

/-- and the 4-bit ones. -/
theorem pay1_apply (r : Fin 512) : k0_pay1 (k0_pay12 x u) (k0_pay13 x u) one32 (ix2 r 0) = lScale (xr x r) (um u) := by
  unfold k0_pay1 k0_pay12 k0_pay13
  exact (scale_at (word 0x40E00000#32) (k0_pay11 x u) (ix2 r 0)).trans (congrArg (scale (word 0x40E00000#32)) (lmax_apply x u r))

/-- The block of 8-bit codes, -/
theorem hcB_apply (r : Fin 512) (k : Fin 360) : hcB x u (ix2 r k) = hCode (xr x r) (um u) k := by
  unfold hcB k0_pay2 k0_pay9
  refine (code_at (word 0xC2FE0000#32) (word 0x42FE0000#32) (k0_pay7 x u) _ (ix2 r k)).trans ?_
  exact congrArg₂ (code (word 0xC2FE0000#32) (word 0x42FE0000#32)) (pay7_apply x u r k)
    ((rep_col (M := 512) (K := 360) (k0_pay8 x u) broadcasts_S512x1_S512x360 (by decide) r k).trans (pay8_apply x u r))

/-- the block of 4-bit codes, -/
theorem lcB_apply (r : Fin 512) (k : Fin 2520) : lcB x u (ix2 r k) = lCode (xr x r) (um u) k := by
  unfold lcB k0_pay3
  refine (code_at (word 0xC0E00000#32) (word 0x40E00000#32) (k0_pay10 x u) _ (ix2 r k)).trans ?_
  exact congrArg₂ (code (word 0xC0E00000#32) (word 0x40E00000#32)) (pay10_apply x u r k)
    ((rep_col (M := 512) (K := 2520) _ broadcasts_S512x1_S512x2520 (by decide) r k).trans (pay1_apply x u r))

/-- the row of 8-bit scales, -/
theorem hsB_apply (r : Fin 512) : hsB x u (ix2 0 r) = hScale (xr x r) (um u) := by
  unfold hsB k0_pay4
  refine (transpose_apply _ _ _ _ (ix2 r 0) fun b => ?_).trans (pay8_apply x u r)
  match b with | ⟨0, _⟩ => rfl | ⟨1, _⟩ => rfl

/-- and the row of 4-bit scales. -/
theorem lsB_apply (r : Fin 512) : lsB x u (ix2 0 r) = lScale (xr x r) (um u) := by
  unfold lsB k0_pay5
  refine (transpose_apply _ _ _ _ (ix2 r 0) fun b => ?_).trans (pay1_apply x u r)
  match b with | ⟨0, _⟩ => rfl | ⟨1, _⟩ => rfl

end Cert.RotateIdeal.Hand

end
-- ==== Proof.RArr.lean ====
/-
  The quantising call's run over the extended reals: the four result arrays end as the plain codes and scales of every row.
-/
module

public import proofs.«01_k».proof.Proof.RRun
public import proofs.«01_k».proof.Proof.RVal

@[expose] public section

set_option maxRecDepth 16384

noncomputable section

namespace Cert.RotateIdeal.Hand

open Cert.RotateIdeal Cert.RotateIdeal.Gen Cert.Rot
open Idealize.ShloMosaic Idealize.ShloMosaic.TcCoe Idealize.ShloMosaic.ValueIdx Idealize.SL.Sem
open Idealize.ShloMosaic.Pipeline (Window Dat RDat)

variable (m : (ℓ : Loc nD τ sig) → Buf (Elt Ideal) ℓ) (ρ : Dev nD → PrngReg)

/-- The row blocks start at multiples of 512 and lie inside their arrays; the rotation's block is the whole of it. -/
theorem idx0 : ∀ t : Fin cfg0.N, win0_0.index t 0 = t.val ∧ win0_0.index t 1 = 0 :=
  (by decide +kernel : ∀ t : Fin grid0.N, win0_0.index t 0 = t.val ∧ win0_0.index t 1 = 0)
theorem idx1 : ∀ t : Fin cfg0.N, win0_1.index t 0 = 0 ∧ win0_1.index t 1 = 0 :=
  (by decide +kernel : ∀ t : Fin grid0.N, win0_1.index t 0 = 0 ∧ win0_1.index t 1 = 0)
theorem idx2 : ∀ t : Fin cfg0.N, win0_2.index t 0 = t.val ∧ win0_2.index t 1 = 0 :=
  (by decide +kernel : ∀ t : Fin grid0.N, win0_2.index t 0 = t.val ∧ win0_2.index t 1 = 0)
theorem idx4 : ∀ t : Fin cfg0.N, win0_4.index t 0 = t.val ∧ win0_4.index t 1 = 0 :=
  (by decide +kernel : ∀ t : Fin grid0.N, win0_4.index t 0 = t.val ∧ win0_4.index t 1 = 0)
theorem ext2 : ∀ t : Fin cfg0.N, win0_2.xsize (grid0.coords t) 0 = 512 ∧ win0_2.xsize (grid0.coords t) 1 = 360 :=
  (by decide +kernel : ∀ t : Fin grid0.N, win0_2.xsize (grid0.coords t) 0 = 512 ∧ win0_2.xsize (grid0.coords t) 1 = 360)
theorem ext4 : ∀ t : Fin cfg0.N, win0_4.xsize (grid0.coords t) 0 = 512 ∧ win0_4.xsize (grid0.coords t) 1 = 2520 :=
  (by decide +kernel : ∀ t : Fin grid0.N, win0_4.xsize (grid0.coords t) 0 = 512 ∧ win0_4.xsize (grid0.coords t) 1 = 2520)

/-- A row of the activation and the rotation, as functions of plain indices. -/
def xrow (c : Dev nD) (R : Fin 8192) (k : Fin 2880) : Ideal .f32 := V m c main_v0 (ix2 R k)
def umat (c : Dev nD) (k n : Fin 2880) : Ideal .f32 := V m c main_arg1 (ix2 k n)

/-- Row `r` of point `t`'s block is row `512 t + r`. -/
theorem blk0 (c : Dev nD) (t : Fin cfg0.N) (r : Fin 512) (R : Fin 8192) (hR : R.val = t.val * 512 + r.val) :
    xr (iblk m c 0 t) r = xrow m c R := by
  funext k
  refine (show xr (iblk m c 0 t) r k = iblk m c 0 t (ix2 r k) from rfl).trans ?_
  unfold iblk xrow
  refine (View.read_apply _ _).trans ((cast_eq _ _).trans (congrArg (V m c main_v0) (funext fun a => Fin.ext ?_)))
  refine (Window.rect_emb_val win0_0 t (ix2 r k) a).trans ?_
  match a with
  | ⟨0, _⟩ => show win0_0.index t 0 * 512 + r.val = R.val; rw [(idx0 t).1]; omega
  | ⟨1, _⟩ => show win0_0.index t 1 * 2880 + k.val = k.val; rw [(idx0 t).2]; omega

/-- Every point holds the whole rotation. -/
theorem blk1 (c : Dev nD) (t : Fin cfg0.N) : um (iblk m c 1 t) = umat m c := by
  funext k n
  refine (show um (iblk m c 1 t) k n = iblk m c 1 t (ix2 k n) from rfl).trans ?_
  unfold iblk umat
  refine (View.read_apply _ _).trans ((cast_eq _ _).trans (congrArg (V m c main_arg1) (funext fun a => Fin.ext ?_)))
  refine (Window.rect_emb_val win0_1 t (ix2 k n) a).trans ?_
  match a with
  | ⟨0, _⟩ => show win0_1.index t 0 * 2880 + k.val = k.val; rw [(idx1 t).1]; omega
  | ⟨1, _⟩ => show win0_1.index t 1 * 2880 + n.val = n.val; rw [(idx1 t).2]; omega

/-- The row of the activation whose scale is entry `i` of a scale array. -/
def rowAt (i : S16x512.Idx) : Fin 8192 := ⟨(i 0).val * 512 + (i 1).val, by have := idx2_lt0 i; have := idx2_lt1 i; omega⟩

/-- The four results: the 8-bit codes, -/
def HC (c : Dev nD) : Buf (Elt Ideal) ((c.tc : Thread nD τ).loc main_v1_0) := fun i : S8192x360.Idx => hCode (xrow m c (i 0)) (umat m c) (i 1)
/-- their scales, 512 rows to a row, -/
def HS (c : Dev nD) : Buf (Elt Ideal) ((c.tc : Thread nD τ).loc main_v1_1) := fun i : S16x512.Idx => hScale (xrow m c (rowAt i)) (umat m c)
/-- the 4-bit codes, -/
def LC (c : Dev nD) : Buf (Elt Ideal) ((c.tc : Thread nD τ).loc main_v1_2) := fun i : S8192x2520.Idx => lCode (xrow m c (i 0)) (umat m c) (i 1)
/-- and theirs. -/
def LS (c : Dev nD) : Buf (Elt Ideal) ((c.tc : Thread nD τ).loc main_v1_3) := fun i : S16x512.Idx => lScale (xrow m c (rowAt i)) (umat m c)

/-- Every entry of a code array lies in one point's block. -/
theorem covered2 (i : S8192x360.Idx) : ∃ t : Fin cfg0.N, (cfg0.win 2).flush t = true ∧ i ∈ ((cfg0.win 2).blk t).view.set := by
  have h0 : (i 0).val < 8192 := idx2_lt0 i
  have h1 : (i 1).val < 360 := idx2_lt1 i
  have hN : cfg0.N = 16 := by decide +kernel
  obtain ⟨t, hv⟩ : ∃ t : Fin cfg0.N, t.val = (i 0).val / 512 := ⟨⟨(i 0).val / 512, by rw [hN]; omega⟩, rfl⟩
  refine ⟨t, (by decide +kernel : ∀ t : Fin grid0.N, win0_2.flush t = true) t, ?_⟩
  show i ∈ ((View.whole main_v1_0).slice (win0_2.rect t)).set
  rw [View.set_slice_whole, Rect.mem_set_unit]
  intro a
  match a with
  | ⟨0, _⟩ =>
    show win0_2.index t 0 * 512 ≤ (i 0).val ∧ (i 0).val < win0_2.index t 0 * 512 + win0_2.xsize (grid0.coords t) 0
    rw [(idx2 t).1, (ext2 t).1]; omega
  | ⟨1, _⟩ =>
    show win0_2.index t 1 * 360 ≤ (i 1).val ∧ (i 1).val < win0_2.index t 1 * 360 + win0_2.xsize (grid0.coords t) 1
    rw [(idx2 t).2, (ext2 t).2]; omega
theorem covered4 (i : S8192x2520.Idx) : ∃ t : Fin cfg0.N, (cfg0.win 4).flush t = true ∧ i ∈ ((cfg0.win 4).blk t).view.set := by
  have h0 : (i 0).val < 8192 := idx2_lt0 i
  have h1 : (i 1).val < 2520 := idx2_lt1 i
  have hN : cfg0.N = 16 := by decide +kernel
  obtain ⟨t, hv⟩ : ∃ t : Fin cfg0.N, t.val = (i 0).val / 512 := ⟨⟨(i 0).val / 512, by rw [hN]; omega⟩, rfl⟩
  refine ⟨t, (by decide +kernel : ∀ t : Fin grid0.N, win0_4.flush t = true) t, ?_⟩
  show i ∈ ((View.whole main_v1_2).slice (win0_4.rect t)).set
  rw [View.set_slice_whole, Rect.mem_set_unit]
  intro a
  match a with
  | ⟨0, _⟩ =>
    show win0_4.index t 0 * 512 ≤ (i 0).val ∧ (i 0).val < win0_4.index t 0 * 512 + win0_4.xsize (grid0.coords t) 0
    rw [(idx4 t).1, (ext4 t).1]; omega
  | ⟨1, _⟩ =>
    show win0_4.index t 1 * 2520 ≤ (i 1).val ∧ (i 1).val < win0_4.index t 1 * 2520 + win0_4.xsize (grid0.coords t) 1
    rw [(idx4 t).2, (ext4 t).2]; omega

/-- What a point writes back of a block of codes is its rows of any array that has the block's rows. -/
theorem cut2 (t : Fin cfg0.N) (B : Vec Ideal S512x360 .i8) (G : Vec Ideal S8192x360 .i8)
    (h : ∀ (r : Fin 512) (k : Fin 360) (R : Fin 8192), R.val = t.val * 512 + r.val → B (ix2 r k) = G (ix2 R k)) :
    (cfg0.win 2).cut (cfg0.grid.coords t) B = ((cfg0.win 2).blk t).view.read (Elt Ideal) G := by
  funext y
  have hN : cfg0.N = 16 := by decide +kernel
  have hx : win0_2.xsize (grid0.coords t) 0 ≤ 512 ∧ win0_2.xsize (grid0.coords t) 1 ≤ 360 := by rw [(ext2 t).1, (ext2 t).2]; omega
  obtain ⟨r, hr⟩ : ∃ r : Fin 512, r.val = (y 0).val := ⟨⟨(y 0).val, lt_of_lt_of_le (y 0).isLt hx.1⟩, rfl⟩
  obtain ⟨k, hk⟩ : ∃ k : Fin 360, k.val = (y 1).val := ⟨⟨(y 1).val, lt_of_lt_of_le (y 1).isLt hx.2⟩, rfl⟩
  obtain ⟨R, hR⟩ : ∃ R : Fin 8192, R.val = t.val * 512 + r.val := ⟨⟨t.val * 512 + r.val, by have := t.isLt; omega⟩, rfl⟩
  have e1 : (cfg0.win 2).cut (cfg0.grid.coords t) B y = B (ix2 r k) := congrArg B (funext fun a => Fin.ext (by
    match a with
    | ⟨0, _⟩ => exact hr.symm
    | ⟨1, _⟩ => exact hk.symm))
  have e2 : ((cfg0.win 2).blk t).view.emb y = (ix2 R k : S8192x360.Idx) := funext fun a => Fin.ext ((Window.rect_emb_val win0_2 t y a).trans (by
    match a with
    | ⟨0, _⟩ => show win0_2.index t 0 * 512 + (y 0).val = R.val; rw [(idx2 t).1]; omega
    | ⟨1, _⟩ => show win0_2.index t 1 * 360 + (y 1).val = k.val; rw [(idx2 t).2]; omega))
  exact e1.trans ((h r k R hR).trans (((View.read_apply _ _).trans ((cast_eq _ _).trans (congrArg G e2))).symm))
theorem cut4 (t : Fin cfg0.N) (B : Vec Ideal S512x2520 .i8) (G : Vec Ideal S8192x2520 .i8)
    (h : ∀ (r : Fin 512) (k : Fin 2520) (R : Fin 8192), R.val = t.val * 512 + r.val → B (ix2 r k) = G (ix2 R k)) :
    (cfg0.win 4).cut (cfg0.grid.coords t) B = ((cfg0.win 4).blk t).view.read (Elt Ideal) G := by
  funext y
  have hN : cfg0.N = 16 := by decide +kernel
  have hx : win0_4.xsize (grid0.coords t) 0 ≤ 512 ∧ win0_4.xsize (grid0.coords t) 1 ≤ 2520 := by rw [(ext4 t).1, (ext4 t).2]; omega
  obtain ⟨r, hr⟩ : ∃ r : Fin 512, r.val = (y 0).val := ⟨⟨(y 0).val, lt_of_lt_of_le (y 0).isLt hx.1⟩, rfl⟩
  obtain ⟨k, hk⟩ : ∃ k : Fin 2520, k.val = (y 1).val := ⟨⟨(y 1).val, lt_of_lt_of_le (y 1).isLt hx.2⟩, rfl⟩
  obtain ⟨R, hR⟩ : ∃ R : Fin 8192, R.val = t.val * 512 + r.val := ⟨⟨t.val * 512 + r.val, by have := t.isLt; omega⟩, rfl⟩
  have e1 : (cfg0.win 4).cut (cfg0.grid.coords t) B y = B (ix2 r k) := congrArg B (funext fun a => Fin.ext (by
    match a with
    | ⟨0, _⟩ => exact hr.symm
    | ⟨1, _⟩ => exact hk.symm))
  have e2 : ((cfg0.win 4).blk t).view.emb y = (ix2 R k : S8192x2520.Idx) := funext fun a => Fin.ext ((Window.rect_emb_val win0_4 t y a).trans (by
    match a with
    | ⟨0, _⟩ => show win0_4.index t 0 * 512 + (y 0).val = R.val; rw [(idx4 t).1]; omega
    | ⟨1, _⟩ => show win0_4.index t 1 * 2520 + (y 1).val = k.val; rw [(idx4 t).2]; omega))
  exact e1.trans ((h r k R hR).trans (((View.read_apply _ _).trans ((cast_eq _ _).trans (congrArg G e2))).symm))

/-- A point's block of 8-bit codes is its rows of the result, -/
theorem flushed2 (c : Dev nD) (t : Fin cfg0.N) : (dats m 0 c).flushed 2 t = ((cfg0.win 2).blk t).view.read (Elt Ideal) (HC m c) := by
  show (cfg0.win 2).cut (cfg0.grid.coords t) ((dats m 0 c).after 2 t) = _
  rw [after2]
  refine cut2 t _ (HC m c) fun r k R hR => ?_
  rw [hcB_apply, blk0 m c t r R hR, blk1]
  rfl
/-- and so for the 4-bit codes. -/
theorem flushed4 (c : Dev nD) (t : Fin cfg0.N) : (dats m 0 c).flushed 4 t = ((cfg0.win 4).blk t).view.read (Elt Ideal) (LC m c) := by
  show (cfg0.win 4).cut (cfg0.grid.coords t) ((dats m 0 c).after 4 t) = _
  rw [after4]
  refine cut4 t _ (LC m c) fun r k R hR => ?_
  rw [lcB_apply, blk0 m c t r R hR, blk1]
  rfl

/-- So the code arrays end as the codes. -/
theorem arr2 (c : Dev nD) (G : Buf (Elt Ideal) ((c.tc : Thread nD τ).loc main_v1_0)) (h : (rdats m c).ArrAt 2 cfg0.N G) : G = HC m c :=
  ((dats m 0 c).toR_arrAt 2 cfg0.N G (((dats m 0 c).toR.override_arrAt (w := 2) rfl cfg0.N G).mp h)).trans
    ((dats m 0 c).arrAt_eq_of_cover 2 (HC m c) (fun t _ => flushed2 m c t) covered2)
theorem arr4 (c : Dev nD) (G : Buf (Elt Ideal) ((c.tc : Thread nD τ).loc main_v1_2)) (h : (rdats m c).ArrAt 4 cfg0.N G) : G = LC m c :=
  ((dats m 0 c).toR_arrAt 4 cfg0.N G (((dats m 0 c).toR.override_arrAt (w := 4) rfl cfg0.N G).mp h)).trans
    ((dats m 0 c).arrAt_eq_of_cover 4 (LC m c) (fun t _ => flushed4 m c t) covered4)

/-- The last point. -/
abbrev lastPt : Fin cfg0.N := pt 15

/-- The scale arrays are written back once, whole, after the last point, when every row is known. -/
theorem arr3 (c : Dev nD) (G : Buf (Elt Ideal) ((c.tc : Thread nD τ).loc main_v1_1)) (h : (rdats m c).ArrAt 3 cfg0.N G) : G = HS m c := by
  obtain ⟨X, hX, hG⟩ := h.emb_eq_of_wholeAt (t₀ := lastPt) (by decide +kernel : win0_3.WholeAt lastPt)
  have hrow : upTo (hsAt m c) lastPt X := (dats m 0 c).toRRel_leaves (w := 3) rfl hX
  funext i
  obtain ⟨k, q, rfl⟩ : ∃ (k : Fin 16) (q : Fin 512), i = ix2 k q := ⟨i 0, i 1, eq_ix2 i⟩
  refine (hG (ix2 k q)).trans ((cast_eq _ _).trans ?_)
  refine (congrArg X (?_ : _ = (ix2 k q : S16x512.Idx))).trans ((hrow k q (by show k.val ≤ 15; omega)).trans ?_)
  · funext a; match a with | ⟨0, _⟩ => rfl | ⟨1, _⟩ => rfl
  · refine (hsB_apply _ _ q).trans ?_
    rw [blk0 m c (pt k) q (rowAt (ix2 k q)) rfl, blk1]; rfl
theorem arr5 (c : Dev nD) (G : Buf (Elt Ideal) ((c.tc : Thread nD τ).loc main_v1_3)) (h : (rdats m c).ArrAt 5 cfg0.N G) : G = LS m c := by
  obtain ⟨X, hX, hG⟩ := h.emb_eq_of_wholeAt (t₀ := lastPt) (by decide +kernel : win0_5.WholeAt lastPt)
  have hrow : upTo (lsAt m c) lastPt X := (dats m 0 c).toRRel_leaves (w := 5) rfl hX
  funext i
  obtain ⟨k, q, rfl⟩ : ∃ (k : Fin 16) (q : Fin 512), i = ix2 k q := ⟨i 0, i 1, eq_ix2 i⟩
  refine (hG (ix2 k q)).trans ((cast_eq _ _).trans ?_)
  refine (congrArg X (?_ : _ = (ix2 k q : S16x512.Idx))).trans ((hrow k q (by show k.val ≤ 15; omega)).trans ?_)
  · funext a; match a with | ⟨0, _⟩ => rfl | ⟨1, _⟩ => rfl
  · refine (lsB_apply _ _ q).trans ?_
    rw [blk0 m c (pt k) q (rowAt (ix2 k q)) rfl, blk1]; rfl

/-- THE RUN: the result arrays end as the codes and scales, the arguments as they were. -/
theorem run_value : θ_run defs (onTc (τ := τ) (main (F := Ideal))) ⟨m, fun _ => 0, ρ⟩ (fun r => ∀ c : Dev nD,
      r.2.mem ((c.tc : Thread nD τ).loc main_v1_0) = HC m c
      ∧ r.2.mem ((c.tc : Thread nD τ).loc main_v1_1) = HS m c
      ∧ r.2.mem ((c.tc : Thread nD τ).loc main_v1_2) = LC m c
      ∧ r.2.mem ((c.tc : Thread nD τ).loc main_v1_3) = LS m c
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨arr2 m c _ ((h.1 c).1 2), arr3 m c _ ((h.1 c).1 3), arr4 m c _ ((h.1 c).1 4), arr5 m c _ ((h.1 c).1 5),
      ((h.1 c).2 main_arg0 (Pipeline.mem_restRefs_of main_arg0 (by decide) (by decide))).trans (V_main_arg0 m c),
      ((RDat.FramePost.arr_in h.1 c 1 rfl).trans (A_eq m c 1)).trans (V_main_arg1 m c)⟩)
    (qrun m ρ)

/-- The activation as the region finds it: the argument, its two leading axes merged. -/
theorem V_v0 (c : Dev nD) : V m c main_v0 = shapeCast S8192x2880 (m ((c.tc : Thread nD τ).loc main_arg0)) shapeCasts_S16x512x2880_S8192x2880 := by
  unfold V
  simp only [hostOps0, StableHlo.after_cons, StableHlo.after_nil]
  exact StableHlo.reshape_result _ _ _ _ _ _ _

end Cert.RotateIdeal.Hand

end
-- ==== Proof.RRefValue.lean ====
/-
  What the quantising call's reference computes, entry by entry over the extended reals: the plain codes and scales of every row.
-/
module

public import proofs.«01_k».proof.Proof.Gen.RotateReferenceIdeal.Value
public import proofs.«01_k».proof.Proof.RSpec

@[expose] public section

set_option maxRecDepth 16384

noncomputable section

namespace Cert.RotateReferenceIdeal.Hand

open Cert.RotateReferenceIdeal Cert.RotateReferenceIdeal.Gen Cert.Rot
open Idealize.ShloMosaic Idealize.ShloMosaic.TcCoe Idealize.ShloMosaic.ValueIdx Idealize.SL.Sem
open Idealize.ShloMosaic.Pipeline (Window Dat)

variable (x : Vec Ideal S8192x2880 .bf16) (u : Vec Ideal S2880x2880 .bf16)

/-- The word of zero is the number zero. -/
theorem zero_word : (FloatOps.ofBits .f32 0x00000000#32 : Ideal .f32) = 0 := by
  simp

/-- A row of the activation and the rotation, as functions of plain indices. -/
abbrev xr (r : Fin 8192) (k : Fin 2880) : Ideal .f32 := x (ix2 r k)
abbrev um (k n : Fin 2880) : Ideal .f32 := u (ix2 k n)

/-- The rotated rows. -/
theorem pay5_apply (r : Fin 8192) (n : Fin 2880) : k0_pay5 x u (ix2 r n) = rot (xr x r) fun k => um u k n := by
  unfold k0_pay5
  refine (Ideal.matmul_plain_apply (M := 8192) (K := 2880) (N := 2880) none _ _ (constant S8192x2880 .f32 0x00000000#32) r n).trans ?_
  rw [show constant (F := Ideal) S8192x2880 .f32 0x00000000#32 (ix2 r n) = 0 from zero_word, zero_add]
  refine Finset.sum_congr rfl fun k _ => congrArg (· * u (ix2 k n)) ?_
  rw [shapeCast_self]
  refine (mul_at x _ bitsLt_bf16_f32 (ix2 r k)).trans (congrArg (x (ix2 r k) * ·) ?_)
  refine (rep_col (M := 8192) (K := 2880) _ broadcasts_S8192x1_S8192x2880 (by decide) r k).trans ?_
  refine (rms_at (word 0x45340000#32) (word 0x358637BD#32) _ _).trans ?_
  refine congrArg (fun z : Ideal .f32 => FloatOps.rsqrt (FloatOps.addf (FloatOps.divf z (word 0x45340000#32)) (word 0x358637BD#32))) ?_
  exact (to_col (M := 8192) _ shapeCasts_S8192_S8192x1 r).trans
    (sum_row (M := 8192) (K := 2880) (mulf x x) 0x00000000#32 reduces_S8192x2880_S8192 (.inl rfl) rfl r)

/-- Their first columns, -/
theorem pay6_apply (r : Fin 8192) (k : Fin 360) : k0_pay6 x u (ix2 r k) = high (xr x r) (um u) k := by
  unfold k0_pay6
  refine (extractStridedSlice_apply _ _ _ _ (ix2 r ⟨k, by omega⟩) fun a => ?_).trans (pay5_apply x u r ⟨k, by omega⟩)
  match a with
  | ⟨0, _⟩ => show r.val = 0 + r.val; omega
  | ⟨1, _⟩ => show k.val = 0 + k.val; omega

/-- and the others. -/
theorem pay9_apply (r : Fin 8192) (k : Fin 2520) : k0_pay9 x u (ix2 r k) = low (xr x r) (um u) k := by
  unfold k0_pay9
  refine (extractStridedSlice_apply _ _ _ _ (ix2 r ⟨360 + k, by omega⟩) fun a => ?_).trans (pay5_apply x u r ⟨360 + k, by omega⟩)
  match a with
  | ⟨0, _⟩ => show r.val = 0 + r.val; omega
  | ⟨1, _⟩ => rfl

/-- The largest magnitudes. -/
theorem hmax_apply (r : Fin 8192) :
    multiReduction .maximumf [1] S8192 (absf (k0_pay6 x u)) 0xFF800000#32 reduces_S8192x360_S8192 (.inl rfl) rfl (ix1 r) = largest (high (xr x r) (um u)) :=
  (max_row (M := 8192) (K := 360) (k0_pay6 x u) reduces_S8192x360_S8192 (.inl rfl) rfl r).trans (congrArg largest (funext fun k => pay6_apply x u r k))
theorem lmax_apply (r : Fin 8192) : k0_pay10 x u (ix1 r) = largest (low (xr x r) (um u)) := by
  unfold k0_pay10
  exact (max_row (M := 8192) (K := 2520) (k0_pay9 x u) reduces_S8192x2520_S8192 (.inl rfl) rfl r).trans (congrArg largest (funext fun k => pay9_apply x u r k))

/-- The 8-bit scales, -/
theorem pay7_apply (r : Fin 8192) : k0_pay7 x u (ix1 r) = hScale (xr x r) (um u) := by
  unfold k0_pay7
  exact (scale_at (word 0x42FE0000#32) _ (ix1 r)).trans (congrArg (scale (word 0x42FE0000#32)) (hmax_apply x u r))

/-- and the 4-bit ones. -/
theorem pay1_apply (r : Fin 8192) : k0_pay1 (k0_pay11 x u) (k0_pay12 x u) (k0_pay13 (F := Ideal)) (ix1 r) = lScale (xr x r) (um u) := by
  unfold k0_pay1 k0_pay11 k0_pay12 k0_pay13
  exact (scale_at (word 0x40E00000#32) (k0_pay10 x u) (ix1 r)).trans (congrArg (scale (word 0x40E00000#32)) (lmax_apply x u r))

/-- A row's scale set along the row. -/
theorem rep_row (K : Nat) (v : FVec Ideal S8192 .f32) (h : Shape.Broadcasts ⟨2, ![8192, 1]⟩ ⟨2, ![8192, K]⟩) (r : Fin 8192) (k : Fin K) :
    broadcastTo ⟨2, ![8192, K]⟩ (shapeCast S8192x1 v shapeCasts_S8192_S8192x1) h (ix2 r k) = v (ix1 r) :=
  (rep_col (M := 8192) (K := K) (shapeCast S8192x1 v shapeCasts_S8192_S8192x1) h (by decide) r k).trans (to_col (M := 8192) v shapeCasts_S8192_S8192x1 r)

/-- The 8-bit codes, -/
theorem pay8_apply (r : Fin 8192) (k : Fin 360) : k0_pay8 x u (ix2 r k) = hCode (xr x r) (um u) k := by
  unfold k0_pay8
  refine (code_at (word 0xC2FE0000#32) (word 0x42FE0000#32) (k0_pay6 x u) _ (ix2 r k)).trans ?_
  exact congrArg₂ (code (word 0xC2FE0000#32) (word 0x42FE0000#32)) (pay6_apply x u r k)
    ((rep_row 360 (k0_pay7 x u) broadcasts_S8192x1_S8192x360 r k).trans (pay7_apply x u r))

/-- and the 4-bit ones. -/
theorem pay2_apply (r : Fin 8192) (k : Fin 2520) :
    k0_pay2 (k0_pay9 x u) (k0_pay11 x u) (k0_pay12 x u) (k0_pay13 (F := Ideal)) (ix2 r k) = lCode (xr x r) (um u) k := by
  unfold k0_pay2
  refine (code_at (word 0xC0E00000#32) (word 0x40E00000#32) (k0_pay9 x u) _ (ix2 r k)).trans ?_
  exact congrArg₂ (code (word 0xC0E00000#32) (word 0x40E00000#32)) (pay9_apply x u r k)
    ((rep_row 2520 _ broadcasts_S8192x1_S8192x2520 r k).trans (pay1_apply x u r))

/-- The row whose scale is entry `i` of a scale array. -/
def rowAt (i : S16x512.Idx) : Fin 8192 := ⟨(i 0).val * 512 + (i 1).val, by have := idx2_lt0 i; have := idx2_lt1 i; omega⟩

/-- A list of row scales laid out 512 to a row. -/
theorem lay_rows (v : Vec Ideal S8192 .f32) (i : S16x512.Idx) : shapeCast S16x512 v shapeCasts_S8192_S16x512 i = v (ix1 (rowAt i)) := by
  refine shapeCast_apply _ _ _ _ ?_
  rw [Shape.rowMajor_val_one, Shape.rowMajor_val_two]
  rfl

/-- Both scale arrays are so laid out. -/
theorem pay3_apply (v : FVec Ideal S8192 .f32) (i : S16x512.Idx) : k0_pay3 v i = v (ix1 (rowAt i)) := by
  unfold k0_pay3
  exact lay_rows v i
theorem pay4_apply (i : S16x512.Idx) :
    k0_pay4 (k0_pay11 x u) (k0_pay12 x u) (k0_pay13 (F := Ideal)) i = lScale (xr x (rowAt i)) (um u) := by
  unfold k0_pay4
  exact (lay_rows _ i).trans (pay1_apply x u (rowAt i))

/-- The offsets of a whole load. -/
theorem off_zero : (![0, 0] : Fin 2 → Nat) = fun _ => 0 := by
  funext a; match a with | ⟨0, _⟩ => rfl | ⟨1, _⟩ => rfl

/-- A load of a whole buffer reads the buffer. -/
theorem ld_all {S : Shape} {e : EltTy} (x : Vec Ideal S e) (off : Fin S.rank → Nat) (h : off = fun _ => 0) (inb) :
    View.ld x (Rect.unit (s := S) off S.size inb) = x := by
  subst h
  funext j
  refine congrArg x (funext fun a => Fin.ext ?_)
  refine (Rect.emb_apply _ _ _).trans ?_
  show 0 + 1 * (j a).val = (j a).val
  omega

/-- What the body leaves in the result blocks. -/
theorem out2_eq : out0_2 x u = k0_pay8 x u := by
  unfold out0_2
  rw [ld_all x _ off_zero, ld_all u _ off_zero]
  exact View.canon_unit_zero off_zero _ _
theorem out3_eq : out0_3 x u = k0_pay3 (k0_pay7 x u) := by
  unfold out0_3
  rw [ld_all x _ off_zero, ld_all u _ off_zero]
  exact View.canon_unit_zero off_zero _ _
theorem out4_eq : out0_4 x u = k0_pay2 (k0_pay9 x u) (k0_pay11 x u) (k0_pay12 x u) (k0_pay13 (F := Ideal)) := by
  unfold out0_4 k0_pay14 k0_pay15 k0_pay16
  rw [ld_all x _ off_zero, ld_all u _ off_zero]
  exact View.canon_unit_zero off_zero _ _
theorem out5_eq : out0_5 x u = k0_pay4 (k0_pay11 x u) (k0_pay12 x u) (k0_pay13 (F := Ideal)) := by
  unfold out0_5 k0_pay14 k0_pay15 k0_pay16
  rw [ld_all x _ off_zero, ld_all u _ off_zero]
  exact View.canon_unit_zero off_zero _ _

variable (m : (ℓ : Loc nD τ sig) → Buf (Elt Ideal) ℓ)

/-- The one point's blocks start at the origin. -/
theorem idx0 : ∀ t : Fin cfg0.N, win0_0.index t 0 = 0 ∧ win0_0.index t 1 = 0 := (by decide +kernel : ∀ t : Fin grid0.N, win0_0.index t 0 = 0 ∧ win0_0.index t 1 = 0)
theorem idx1 : ∀ t : Fin cfg0.N, win0_1.index t 0 = 0 ∧ win0_1.index t 1 = 0 := (by decide +kernel : ∀ t : Fin grid0.N, win0_1.index t 0 = 0 ∧ win0_1.index t 1 = 0)
theorem idx2 : ∀ t : Fin cfg0.N, win0_2.index t 0 = 0 ∧ win0_2.index t 1 = 0 := (by decide +kernel : ∀ t : Fin grid0.N, win0_2.index t 0 = 0 ∧ win0_2.index t 1 = 0)
theorem idx3 : ∀ t : Fin cfg0.N, win0_3.index t 0 = 0 ∧ win0_3.index t 1 = 0 := (by decide +kernel : ∀ t : Fin grid0.N, win0_3.index t 0 = 0 ∧ win0_3.index t 1 = 0)
theorem idx4 : ∀ t : Fin cfg0.N, win0_4.index t 0 = 0 ∧ win0_4.index t 1 = 0 := (by decide +kernel : ∀ t : Fin grid0.N, win0_4.index t 0 = 0 ∧ win0_4.index t 1 = 0)
theorem idx5 : ∀ t : Fin cfg0.N, win0_5.index t 0 = 0 ∧ win0_5.index t 1 = 0 := (by decide +kernel : ∀ t : Fin grid0.N, win0_5.index t 0 = 0 ∧ win0_5.index t 1 = 0)

/-- Each input window's block is its array. -/
theorem blk0 (c : Dev nD) (t : Fin cfg0.N) : iblk m c 0 t = V m c main_v0 := by
  funext y
  refine (View.read_apply _ _).trans ((cast_eq _ _).trans (congrArg (V m c main_v0) (funext fun a => Fin.ext ?_)))
  refine (Window.rect_emb_val win0_0 t y a).trans ?_
  match a with
  | ⟨0, _⟩ => show win0_0.index t 0 * 8192 + (y 0).val = (y 0).val; rw [(idx0 t).1]; omega
  | ⟨1, _⟩ => show win0_0.index t 1 * 2880 + (y 1).val = (y 1).val; rw [(idx0 t).2]; omega
theorem blk1 (c : Dev nD) (t : Fin cfg0.N) : iblk m c 1 t = V m c main_arg1 := by
  funext y
  refine (View.read_apply _ _).trans ((cast_eq _ _).trans (congrArg (V m c main_arg1) (funext fun a => Fin.ext ?_)))
  refine (Window.rect_emb_val win0_1 t y a).trans ?_
  match a with
  | ⟨0, _⟩ => show win0_1.index t 0 * 2880 + (y 0).val = (y 0).val; rw [(idx1 t).1]; omega
  | ⟨1, _⟩ => show win0_1.index t 1 * 2880 + (y 1).val = (y 1).val; rw [(idx1 t).2]; omega

/-- A row of the activation and the rotation as the region finds them. -/
def xrow (c : Dev nD) (R : Fin 8192) (k : Fin 2880) : Ideal .f32 := V m c main_v0 (ix2 R k)
def umat (c : Dev nD) (k n : Fin 2880) : Ideal .f32 := V m c main_arg1 (ix2 k n)

/-- The four results: the 8-bit codes, -/
def HC (c : Dev nD) : Buf (Elt Ideal) ((c.tc : Thread nD τ).loc main_v1_0) := fun i : S8192x360.Idx => hCode (xrow m c (i 0)) (umat m c) (i 1)
/-- their scales, 512 rows to a row, -/
def HS (c : Dev nD) : Buf (Elt Ideal) ((c.tc : Thread nD τ).loc main_v1_1) := fun i : S16x512.Idx => hScale (xrow m c (rowAt i)) (umat m c)
/-- the 4-bit codes, -/
def LC (c : Dev nD) : Buf (Elt Ideal) ((c.tc : Thread nD τ).loc main_v1_2) := fun i : S8192x2520.Idx => lCode (xrow m c (i 0)) (umat m c) (i 1)
/-- and theirs. -/
def LS (c : Dev nD) : Buf (Elt Ideal) ((c.tc : Thread nD τ).loc main_v1_3) := fun i : S16x512.Idx => lScale (xrow m c (rowAt i)) (umat m c)

/-- The one point writes each result array whole. -/
theorem emb2 (t : Fin cfg0.N) (y : S8192x360.Idx) : (win0_2.rect t).emb y = y := by
  funext a; apply Fin.ext
  refine (Window.rect_emb_val win0_2 t y a).trans ?_
  match a with
  | ⟨0, _⟩ => show win0_2.index t 0 * 8192 + (y 0).val = (y 0).val; rw [(idx2 t).1]; omega
  | ⟨1, _⟩ => show win0_2.index t 1 * 360 + (y 1).val = (y 1).val; rw [(idx2 t).2]; omega
theorem emb3 (t : Fin cfg0.N) (y : S16x512.Idx) : (win0_3.rect t).emb y = y := by
  funext a; apply Fin.ext
  refine (Window.rect_emb_val win0_3 t y a).trans ?_
  match a with
  | ⟨0, _⟩ => show win0_3.index t 0 * 16 + (y 0).val = (y 0).val; rw [(idx3 t).1]; omega
  | ⟨1, _⟩ => show win0_3.index t 1 * 512 + (y 1).val = (y 1).val; rw [(idx3 t).2]; omega
theorem emb4 (t : Fin cfg0.N) (y : S8192x2520.Idx) : (win0_4.rect t).emb y = y := by
  funext a; apply Fin.ext
  refine (Window.rect_emb_val win0_4 t y a).trans ?_
  match a with
  | ⟨0, _⟩ => show win0_4.index t 0 * 8192 + (y 0).val = (y 0).val; rw [(idx4 t).1]; omega
  | ⟨1, _⟩ => show win0_4.index t 1 * 2520 + (y 1).val = (y 1).val; rw [(idx4 t).2]; omega
theorem emb5 (t : Fin cfg0.N) (y : S16x512.Idx) : (win0_5.rect t).emb y = y := by
  funext a; apply Fin.ext
  refine (Window.rect_emb_val win0_5 t y a).trans ?_
  match a with
  | ⟨0, _⟩ => show win0_5.index t 0 * 16 + (y 0).val = (y 0).val; rw [(idx5 t).1]; omega
  | ⟨1, _⟩ => show win0_5.index t 1 * 512 + (y 1).val = (y 1).val; rw [(idx5 t).2]; omega

/-- The one point. -/
abbrev pt0 : Fin cfg0.N := (⟨0, by decide⟩ : Fin grid0.N)

/-- The reference's arrays after the run. -/
theorem arr2 (c : Dev nD) : (dats m 0 c).arrAt 2 cfg0.N = HC m c := by
  refine (dats m 0 c).arrAt_eq_of_cover 2 (HC m c) (fun t _ => ?_) (fun i => ?_)
  · rw [Value.flushed2, blk0, blk1, out2_eq]
    funext y
    refine Eq.trans (congrArg _ (eq_ix2 (n0 := 8192) (n1 := 360) y)) ((pay8_apply _ _ _ _).trans (Eq.symm ?_))
    exact (View.read_apply _ _).trans ((cast_eq _ _).trans (congrArg (HC m c) (emb2 t y)))
  · refine ⟨pt0, (by decide +kernel : ∀ t : Fin grid0.N, win0_2.flush t = true) pt0, ?_⟩
    have h := View.emb_mem_set ((cfg0.win 2).blk pt0).view (show S8192x360.Idx from i)
    have e : ((cfg0.win 2).blk pt0).view.emb (show S8192x360.Idx from i) = i := emb2 pt0 i
    rw [e] at h
    exact h
theorem arr3 (c : Dev nD) : (dats m 0 c).arrAt 3 cfg0.N = HS m c := by
  refine (dats m 0 c).arrAt_eq_of_cover 3 (HS m c) (fun t _ => ?_) (fun i => ?_)
  · rw [Value.flushed3, blk0, blk1, out3_eq]
    funext y
    refine (pay3_apply _ y).trans ((pay7_apply (V m c main_v0) (V m c main_arg1) (rowAt y)).trans (Eq.symm ?_))
    exact (View.read_apply _ _).trans ((cast_eq _ _).trans (congrArg (HS m c) (emb3 t y)))
  · refine ⟨pt0, (by decide +kernel : ∀ t : Fin grid0.N, win0_3.flush t = true) pt0, ?_⟩
    have h := View.emb_mem_set ((cfg0.win 3).blk pt0).view (show S16x512.Idx from i)
    have e : ((cfg0.win 3).blk pt0).view.emb (show S16x512.Idx from i) = i := emb3 pt0 i
    rw [e] at h
    exact h
theorem arr4 (c : Dev nD) : (dats m 0 c).arrAt 4 cfg0.N = LC m c := by
  refine (dats m 0 c).arrAt_eq_of_cover 4 (LC m c) (fun t _ => ?_) (fun i => ?_)
  · rw [Value.flushed4, blk0, blk1, out4_eq]
    funext y
    refine Eq.trans (congrArg _ (eq_ix2 (n0 := 8192) (n1 := 2520) y)) ((pay2_apply _ _ _ _).trans (Eq.symm ?_))
    exact (View.read_apply _ _).trans ((cast_eq _ _).trans (congrArg (LC m c) (emb4 t y)))
  · refine ⟨pt0, (by decide +kernel : ∀ t : Fin grid0.N, win0_4.flush t = true) pt0, ?_⟩
    have h := View.emb_mem_set ((cfg0.win 4).blk pt0).view (show S8192x2520.Idx from i)
    have e : ((cfg0.win 4).blk pt0).view.emb (show S8192x2520.Idx from i) = i := emb4 pt0 i
    rw [e] at h
    exact h
theorem arr5 (c : Dev nD) : (dats m 0 c).arrAt 5 cfg0.N = LS m c := by
  refine (dats m 0 c).arrAt_eq_of_cover 5 (LS m c) (fun t _ => ?_) (fun i => ?_)
  · rw [Value.flushed5, blk0, blk1, out5_eq]
    funext y
    refine (pay4_apply (V m c main_v0) (V m c main_arg1) y).trans (Eq.symm ?_)
    exact (View.read_apply _ _).trans ((cast_eq _ _).trans (congrArg (LS m c) (emb5 t y)))
  · refine ⟨pt0, (by decide +kernel : ∀ t : Fin grid0.N, win0_5.flush t = true) pt0, ?_⟩
    have h := View.emb_mem_set ((cfg0.win 5).blk pt0).view (show S16x512.Idx from i)
    have e : ((cfg0.win 5).blk pt0).view.emb (show S16x512.Idx from i) = i := emb5 pt0 i
    rw [e] at h
    exact h

/-- The activation as the region finds it: the argument, its two leading axes merged. -/
theorem V_v0 (c : Dev nD) : V m c main_v0 = shapeCast S8192x2880 (m ((c.tc : Thread nD τ).loc main_arg0)) shapeCasts_S16x512x2880_S8192x2880 := by
  unfold V
  simp only [hostOps0, StableHlo.after_cons, StableHlo.after_nil]
  exact StableHlo.reshape_result _ _ _ _ _ _ _

end Cert.RotateReferenceIdeal.Hand

end
-- ==== Proof.REqual.lean ====
/-
  The quantising call's and its reference's results are equal over the extended reals.
-/
module

public import proofs.«01_k».proof.Proof.RArr
public import proofs.«01_k».proof.Proof.RRefValue

@[expose] public section

set_option maxRecDepth 16384

noncomputable section

namespace Cert.Rot

open Idealize.ShloMosaic Idealize.ShloMosaic.TcCoe Idealize.ShloMosaic.ValueIdx Idealize.SL.Sem

variable (m : (ℓ : Loc RotateIdeal.nD RotateIdeal.τ RotateIdeal.sig) → Buf (Elt Ideal) ℓ)
  (m' : (ℓ : Loc RotateReferenceIdeal.nD RotateReferenceIdeal.τ RotateReferenceIdeal.sig) → Buf (Elt Ideal) ℓ)
  (c : Dev RotateIdeal.nD)

/-- Equal activations have equal rows, -/
theorem xrow_eq
    (h0 : m' ((c.tc : Thread RotateReferenceIdeal.nD RotateReferenceIdeal.τ).loc RotateReferenceIdeal.main_arg0) = m ((c.tc : Thread RotateIdeal.nD RotateIdeal.τ).loc RotateIdeal.main_arg0)) :
    RotateReferenceIdeal.Hand.xrow m' c = RotateIdeal.Hand.xrow m c := by
  funext R k
  unfold RotateReferenceIdeal.Hand.xrow RotateIdeal.Hand.xrow
  rw [RotateReferenceIdeal.Hand.V_v0, RotateIdeal.Hand.V_v0, h0]

/-- and equal rotations equal entries. -/
theorem umat_eq
    (h1 : m' ((c.tc : Thread RotateReferenceIdeal.nD RotateReferenceIdeal.τ).loc RotateReferenceIdeal.main_arg1) = m ((c.tc : Thread RotateIdeal.nD RotateIdeal.τ).loc RotateIdeal.main_arg1)) :
    RotateReferenceIdeal.Hand.umat m' c = RotateIdeal.Hand.umat m c := by
  have e := (RotateReferenceIdeal.Gen.V_main_arg1 m' c).trans (h1.trans (RotateIdeal.Gen.V_main_arg1 m c).symm)
  funext k n
  exact congrFun e (ix2 k n)

/-- So the four results are equal. -/
theorem results_eq
    (h0 : m' ((c.tc : Thread RotateReferenceIdeal.nD RotateReferenceIdeal.τ).loc RotateReferenceIdeal.main_arg0) = m ((c.tc : Thread RotateIdeal.nD RotateIdeal.τ).loc RotateIdeal.main_arg0))
    (h1 : m' ((c.tc : Thread RotateReferenceIdeal.nD RotateReferenceIdeal.τ).loc RotateReferenceIdeal.main_arg1) = m ((c.tc : Thread RotateIdeal.nD RotateIdeal.τ).loc RotateIdeal.main_arg1)) :
    (RotateReferenceIdeal.Hand.HC m' c : RotateIdeal.S8192x360.Idx → BitVec 8) = RotateIdeal.Hand.HC m c
    ∧ (RotateReferenceIdeal.Hand.HS m' c : RotateIdeal.S16x512.Idx → EReal) = RotateIdeal.Hand.HS m c
    ∧ (RotateReferenceIdeal.Hand.LC m' c : RotateIdeal.S8192x2520.Idx → BitVec 8) = RotateIdeal.Hand.LC m c
    ∧ (RotateReferenceIdeal.Hand.LS m' c : RotateIdeal.S16x512.Idx → EReal) = RotateIdeal.Hand.LS m c := by
  unfold RotateReferenceIdeal.Hand.HC RotateReferenceIdeal.Hand.HS RotateReferenceIdeal.Hand.LC RotateReferenceIdeal.Hand.LS
  rw [xrow_eq m m' c h0, umat_eq m m' c h1]
  exact ⟨rfl, rfl, rfl, rfl⟩

end Cert.Rot

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Value
public import proofs.«01_k».proof.Proof.Gen.Rotate
public import proofs.«01_k».proof.Proof.Gen.Rotate.Skeleton
public import proofs.«01_k».proof.Proof.Gen.Rotate.Launch
public import proofs.«01_k».proof.Proof.Gen.Rotate.Points
public import proofs.«01_k».proof.Proof.Gen.Rotate.Frame
public import proofs.«01_k».proof.Proof.Gen.RotateIdeal
public import proofs.«01_k».proof.Proof.Gen.RotateIdeal.Skeleton
public import proofs.«01_k».proof.Proof.Gen.RotateIdeal.Launch
public import proofs.«01_k».proof.Proof.Gen.RotateIdeal.Points
public import proofs.«01_k».proof.Proof.Gen.RotateIdeal.Frame
public import proofs.«01_k».proof.Proof.Gen.RotateReferenceIdeal
public import proofs.«01_k».proof.Proof.Gen.RotateReferenceIdeal.Skeleton
public import proofs.«01_k».proof.Proof.Gen.RotateReferenceIdeal.Launch
public import proofs.«01_k».proof.Proof.Gen.RotateReferenceIdeal.Points
public import proofs.«01_k».proof.Proof.Gen.RotateReferenceIdeal.Frame
public import proofs.«01_k».proof.Proof.Gen.RotateReferenceIdeal.Value
public import proofs.«01_k».proof.Proof.KForget
public import proofs.«01_k».proof.Proof.Forget
public import proofs.«01_k».proof.Proof.Equal
public import proofs.«01_k».proof.Proof.KRRun
public import proofs.«01_k».proof.Proof.RRun
public import proofs.«01_k».proof.Proof.REqual
public import Idealize.ShloMosaic.Adequacy
public import Idealize.ShloMosaic.Init

@[expose] public section

noncomputable section

namespace Cert.Proof

open Idealize.ShloMosaic Idealize.SL.Sem Cert.Kernel

/-- The three frames, the preservation, and the equality of the two results over the extended reals. -/
theorem claim : Cert.Claim := ⟨Cert.Kernel.Gen.facts, Cert.KernelIdeal.Gen.facts, Cert.ReferenceIdeal.Gen.facts,
  Cert.Rotate.Gen.facts, Cert.RotateIdeal.Gen.facts, Cert.RotateReferenceIdeal.Gen.facts,
  fun m g _ => Cert.Kernel.Hand.frame m g,
  fun m g _ => Cert.KernelIdeal.Hand.frame m g,
  fun m g _ => Cert.ReferenceIdeal.Gen.frame m g,
  fun m g _ => Cert.Rotate.Hand.frame m g,
  fun m g _ => Cert.RotateIdeal.Hand.frame m g,
  fun m g _ => Cert.RotateReferenceIdeal.Gen.frame m g,
  trivial,
  fun m g m' g' _ h => ⟨fun c => Cert.KernelIdeal.Hand.Y m c, Cert.KernelIdeal.Hand.run_value m g,
    (θ_run _ _ _).mono (fun r hr c => ⟨(hr c).1.trans ((Cert.ReferenceIdeal.Hand.arr_eq m' c).trans
      (let ⟨h0, h1, h2, h3, h4, h5, h6, h7⟩ := h c
       Cert.matrix_eq m m' c h0 h1 h2 h3 h4 h5 h6 h7)), (hr c).2⟩) (Cert.ReferenceIdeal.Value.run_blocks m' g')⟩,
  trivial,
  fun m g m' g' _ h => ⟨fun c => Cert.RotateIdeal.Hand.HC m c, fun c => Cert.RotateIdeal.Hand.HS m c,
    fun c => Cert.RotateIdeal.Hand.LC m c, fun c => Cert.RotateIdeal.Hand.LS m c, Cert.RotateIdeal.Hand.run_value m g,
    (θ_run _ _ _).mono (fun r hr c =>
      let ⟨e2, e3, e4, e5⟩ := Cert.Rot.results_eq m m' c (h c).1 (h c).2
      let ⟨r2, r3, r4, r5, ra⟩ := hr c
      ⟨r2.trans ((Cert.RotateReferenceIdeal.Hand.arr2 m' c).trans e2), r3.trans ((Cert.RotateReferenceIdeal.Hand.arr3 m' c).trans e3),
        r4.trans ((Cert.RotateReferenceIdeal.Hand.arr4 m' c).trans e4), r5.trans ((Cert.RotateReferenceIdeal.Hand.arr5 m' c).trans e5), ra⟩)
      (Cert.RotateReferenceIdeal.Value.run_blocks m' g')⟩⟩

end Cert.Proof

end
